-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = Layout.blockN ⟨2, ![2048, 8192]⟩ ⟨2, ![4096, 8192]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S_ : Shape := ⟨0, ![]⟩
abbrev S4096x1024 : Shape := ⟨2, ![4096, 1024]⟩
abbrev S1024x4096 : Shape := ⟨2, ![1024, 4096]⟩
abbrev S1024x8192 : Shape := ⟨2, ![1024, 8192]⟩
abbrev S2048x8192 : Shape := ⟨2, ![2048, 8192]⟩
abbrev S1024x1024 : Shape := ⟨2, ![1024, 1024]⟩
abbrev S2048x1024 : Shape := ⟨2, ![2048, 1024]⟩
abbrev S2x1024x1024 : Shape := ⟨3, ![2, 1024, 1024]⟩
abbrev S2 : Shape := ⟨1, ![2]⟩
abbrev S1 : Shape := ⟨1, ![1]⟩
abbrev S1x1024x1024 : Shape := ⟨3, ![1, 1024, 1024]⟩

abbrev nBuf : Space → Nat
  | .hbm => 47
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S4096x1024, .bf16⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S4096x1024, .bf16⟩
  | .hbm, ⟨40, _⟩ => ⟨S1024x4096, .bf16⟩
  | .hbm, ⟨41, _⟩ => ⟨S1024x8192, .f32⟩
  | .hbm, ⟨42, _⟩ => ⟨S1024x8192, .bf16⟩
  | .hbm, ⟨43, _⟩ => ⟨S1024x4096, .bf16⟩
  | .hbm, ⟨44, _⟩ => ⟨S1024x8192, .f32⟩
  | .hbm, ⟨45, _⟩ => ⟨S1024x8192, .bf16⟩
  | .hbm, ⟨46, _⟩ => ⟨S2048x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2x1024x1024, .bf16⟩
  | .local _ .vmem, ⟨7, _⟩ => ⟨S1024x1024, .bf16⟩
  | .local _ .vmem, ⟨8, _⟩ => ⟨S2x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_c_10 : Ref sig .tc := ⟨.hbm, 31, rfl⟩
abbrev main_v19 : Ref sig .tc := ⟨.hbm, 32, rfl⟩
abbrev main_c_11 : Ref sig .tc := ⟨.hbm, 33, rfl⟩
abbrev main_v20 : Ref sig .tc := ⟨.hbm, 34, rfl⟩
abbrev main_c_12 : Ref sig .tc := ⟨.hbm, 35, rfl⟩
abbrev main_v21 : Ref sig .tc := ⟨.hbm, 36, rfl⟩
abbrev main_v22 : Ref sig .tc := ⟨.hbm, 37, rfl⟩
abbrev main_c_13 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_5 : BitVec 32 := 0#32
  let v12 : BitVec 1 := Scalar.cmpi .ne v11 c0_i32_5
  v12

def k0_dev1 (d1 : Dev nD) : Nat :=
  let c0_i32_47 : BitVec 32 := 0#32
  let c1_i32_3 : BitVec 32 := 1#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let v7 : BitVec 32 := Scalar.subi c1_i32_3 v3
  let c2_i32_46 : BitVec 32 := 2#32
  let v82 : BitVec 32 := Scalar.muli v7 c2_i32_46
  let v83 : BitVec 32 := Scalar.addi c0_i32_47 v82
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let c1_i32_48 : BitVec 32 := 1#32
  let v84 : BitVec 32 := Scalar.muli v6 c1_i32_48
  let v85 : BitVec 32 := Scalar.addi v83 v84
  v85.toNat
def k0_dev2 (d1 : Dev nD) : Nat :=
  let c0_i32_51 : BitVec 32 := 0#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let c2_i32_50 : BitVec 32 := 2#32
  let v86 : BitVec 32 := Scalar.muli v3 c2_i32_50
  let v87 : BitVec 32 := Scalar.addi c0_i32_51 v86
  let c1_i32_4 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v8 : BitVec 32 := Scalar.subi c1_i32_4 v6
  let c1_i32_52 : BitVec 32 := 1#32
  let v88 : BitVec 32 := Scalar.muli v8 c1_i32_52
  let v89 : BitVec 32 := Scalar.addi v87 v88
  v89.toNat
def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_9 : BitVec 32 := 0#32
  let c0_i32_10 : BitVec 32 := 0#32
  ![v0.toNat, 0, 0]
def k0_dev3 (d1 : Dev nD) : Nat :=
  let c0_i32_7 : BitVec 32 := 0#32
  let c1_i32_3 : BitVec 32 := 1#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let v7 : BitVec 32 := Scalar.subi c1_i32_3 v3
  let c2_i32_6 : BitVec 32 := 2#32
  let v13 : BitVec 32 := Scalar.muli v7 c2_i32_6
  let v14 : BitVec 32 := Scalar.addi c0_i32_7 v13
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let c1_i32_8 : BitVec 32 := 1#32
  let v15 : BitVec 32 := Scalar.muli v6 c1_i32_8
  let v16 : BitVec 32 := Scalar.addi v14 v15
  v16.toNat
def k0_off3 (i : grid0.Coords) : Fin 3 → Nat :=
  let arg0 : BitVec 32 := BitVec.ofNat 32 (i 0).val
  let c2_i32 : BitVec 32 := 2#32
  let v0 : BitVec 32 := Scalar.remsi arg0 c2_i32
  let v38 : Index := Scalar.indexCast v0
  let c0_20 : Index := 0#32
  let c0_21 : Index := 0#32
  ![v38.toNat, 0, 0]
def k0_dev4 (d1 : Dev nD) : Nat :=
  let c0_i32_25 : BitVec 32 := 0#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let c2_i32_24 : BitVec 32 := 2#32
  let v47 : BitVec 32 := Scalar.muli v3 c2_i32_24
  let v48 : BitVec 32 := Scalar.addi c0_i32_25 v47
  let c1_i32_4 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v8 : BitVec 32 := Scalar.subi c1_i32_4 v6
  let c1_i32_26 : BitVec 32 := 1#32
  let v49 : BitVec 32 := Scalar.muli v8 c1_i32_26
  let v50 : BitVec 32 := Scalar.addi v48 v49
  v50.toNat
def k0_off4 (d1 : Dev nD) : Fin 2 → Nat :=
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let c1024_i32 : BitVec 32 := 1024#32
  let v59 : BitVec 32 := Scalar.muli v6 c1024_i32
  let v60 : Index := Scalar.indexCast v59
  let c0_31 : Index := 0#32
  ![v60.toNat, 0]
def k0_off5 (d1 : Dev nD) : Fin 2 → Nat :=
  let c1_i32_42 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v78 : BitVec 32 := Scalar.subi c1_i32_42 v6
  let c1024_i32_43 : BitVec 32 := 1024#32
  let v79 : BitVec 32 := Scalar.muli v78 c1024_i32_43
  let v80 : Index := Scalar.indexCast v79
  let c0_44 : Index := 0#32
  ![v80.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x8192, .bf16⟩
  | .hbm, ⟨2, _⟩ => ⟨S4096x8192, .bf16⟩
  | .hbm, ⟨3, _⟩ => ⟨S4096x8192, .f32⟩
  | .hbm, ⟨4, _⟩ => ⟨S4096x8192, .bf16⟩
  | .hbm, ⟨5, _⟩ => ⟨S4096x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Sched.lean ====
/-
  The protocol of the kernel's exchange, as a schedule of rounds.

  The four devices form a 2 × 2 mesh. Every device exchanges one block per step with its neighbour along x (link 0), adds what came,
  and exchanges the sum with its neighbour along y (link 1); there are eight steps, and a link receives into one of two slots, step
  after step in turn. Nothing but the blocks themselves says that a slot may be written again. So the right to write the slot of step
  `t + 1` travels WITH the block of step `t`: a device that starts its step `t` has read what step `t - 1` left, and hands the slot of
  that step to its neighbour together with the block it sends. The right to write the slot of step 0 travels with the barrier signal.

  Cells of a device: its barrier semaphore, and per link and slot one send and one receive semaphore.
-/
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Regions
public import Idealize.ShloMosaic.Lib.Rounds
public import Idealize.ShloMosaic.Lib.Pipeline.RegionTalk
public import Idealize.ShloMosaic.Lib.Tactic
public import Mathlib.Algebra.BigOperators.Intervals

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

/-- The neighbour of a device on a link: along x on link 0, along y on link 1. -/
def nb (l : Fin 2) (c : Dev nD) : Dev nD := if l = 0 then (![2, 3, 0, 1] : Fin 4 → Fin 4) c else (![1, 0, 3, 2] : Fin 4 → Fin 4) c

theorem nb_nb (l : Fin 2) (c : Dev nD) : nb l (nb l c) = c := by revert l c; decide

/-- Neighbours on a link, as a permutation of the devices. -/
def nbEquiv (l : Fin 2) : Dev nD ≃ Dev nD := ⟨nb l, nb l, nb_nb l, nb_nb l⟩

theorem dev1_eq (c : Dev nD) (h : k0_dev1 c < nD) : (⟨k0_dev1 c, h⟩ : Dev nD) = nb 0 c := by revert h; revert c; decide
theorem dev2_eq (c : Dev nD) (h : k0_dev2 c < nD) : (⟨k0_dev2 c, h⟩ : Dev nD) = nb 1 c := by revert h; revert c; decide
theorem dev3_eq (c : Dev nD) (h : k0_dev3 c < nD) : (⟨k0_dev3 c, h⟩ : Dev nD) = nb 0 c := by revert h; revert c; decide
theorem dev4_eq (c : Dev nD) (h : k0_dev4 c < nD) : (⟨k0_dev4 c, h⟩ : Dev nD) = nb 1 c := by revert h; revert c; decide

/-! ## Slots, semaphores, cells -/

/-- The slot of step `t`. -/
def slotOf (t : ℕ) : Fin 2 := ⟨t % 2, Nat.mod_lt _ (by decide)⟩

theorem slotOf_add_two (t : ℕ) : slotOf (t + 2) = slotOf t := Fin.ext (by simp [slotOf])

/-- The receive buffer of a link: two slots. -/
abbrev recvM : Fin 2 → Memref sig .tc .vmem S2x1024x1024 .bf16
  | 0 => Memref.whole cc0_scratch0
  | 1 => Memref.whole cc0_scratch2

theorem slot_inb (b : Fin 2) : ∀ a, ![b.val, 0, 0] a + S1x1024x1024.size a ≤ S2x1024x1024.size a := by revert b; decide

/-- The rectangle of slot `b`. -/
abbrev slotRect (b : Fin 2) : Rect S2x1024x1024 := Rect.unit (s := S2x1024x1024) ![b.val, 0, 0] S1x1024x1024.size (slot_inb b)

/-- Slot `b` of link `l`. -/
abbrev slotM (l b : Fin 2) : Memref sig .tc .vmem S1024x1024 .bf16 :=
  ((recvM l).slice (slotRect b) (fun _ => rfl)).squeeze S1024x1024 squeezes_S1x1024x1024_S1024x1024

/-- The barrier semaphore, and the send and receive semaphores of a link's slot. -/
abbrev barS : Sem sig := (SemArray.scalar (sig.barrier 0 rfl) : Sems sig S_).sem
def sendS (l b : Fin 2) : DmaSem sig := ⟨6 + 4 * l.val + b.val, by have := l.isLt; have := b.isLt; show _ < 14; omega⟩
def recvS (l b : Fin 2) : DmaSem sig := ⟨8 + 4 * l.val + b.val, by have := l.isLt; have := b.isLt; show _ < 14; omega⟩

abbrev barCell (c : Dev nD) : GSem nD τ sig := ((c : Thread nD τ), .reg barS)
abbrev sendCell (l b : Fin 2) (c : Dev nD) : GSem nD τ sig := ((c : Thread nD τ), .dma (sendS l b))
abbrev recvCell (l b : Fin 2) (c : Dev nD) : GSem nD τ sig := ((c : Thread nD τ), .dma (recvS l b))

/-- The bytes one block's copy adds to a semaphore. -/
def N : ℕ := (Memref.whole cc0_scratch1 : Memref sig .tc .vmem S1024x1024 .bf16).view.dmaCredit
theorem N_pos : 0 < N := View.dmaCredit_pos _ (by decide)

/-- What link 0 sends at step `t` lies in the second operand's staging buffer, what link 1 sends in the kernel's scratch. -/
def srcM : Fin 2 → ℕ → Memref sig .tc .vmem S1024x1024 .bf16
  | 0, t => win0_1.stage (cfg0.slots ⟨t % 8, by rw [show cfg0.N = 8 from N_0]; exact Nat.mod_lt _ (by decide)⟩ 1)
  | 1, _ => Memref.whole cc0_scratch1

/-- The share of the source a copy holds while it is in flight: link 1's source is read meanwhile. -/
abbrev srcShare : Fin 2 → PosShare TreeShare
  | 0 => fullShare
  | 1 => fullShare.left

/-! ## The resource algebra -/

abbrev UU : Type := UR sig nD τ × URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

/-- Slot `b` of link `l` on device `c`, at some contents. -/
def anySlot (l b : Fin 2) (c : Dev nD) : sProp 𝕄 :=
  iprop(∃ f, (slotM l b).view.loc (c : Thread nD τ) ↦[(slotM l b).view.set]{fullShare} f)

/-- The right to send device `c` the block of step `t` on link `l`: the slot it goes to, and that its cell has come to that step's round.
    None is needed past the last step. -/
def give (l : Fin 2) (c : Dev nD) (t : ℕ) : sProp 𝕄 :=
  if t < 8 then iprop(anySlot l (slotOf t) c ∗ reached ER (recvCell l (slotOf t) c) (t / 2)) else iprop(emp)

instance give_storable (l : Fin 2) (c : Dev nD) (t : ℕ) : BI.Storable (upEmb : UEmb _ 𝕄) (give (F := F) l c t) := by
  unfold give anySlot; split <;> infer_instance

variable (msg : Fin 2 → Dev nD → ℕ → S1024x1024.Idx → Elt F .bf16)

/-- What device `c` gets with the neighbour's block of step `t`: the slot holding that block, and the right to send the next one. -/
def recvPay (l : Fin 2) (c : Dev nD) (t : ℕ) : sProp 𝕄 :=
  iprop(owns (c : Thread nD τ) (slotM l (slotOf t)) fullShare (msg l (nb l c) t) ∗ give l (nb l c) (t + 1))

/-- What device `c` gets back once its block of step `t` has left: the source, unchanged. -/
def sendPay (l : Fin 2) (c : Dev nD) (t : ℕ) : sProp 𝕄 :=
  owns (c : Thread nD τ) (srcM l t) (srcShare l) (msg l c t)

/-- The link and the slot of a semaphore of the exchange, and whether it is a receive semaphore. -/
abbrev lnk (n : DmaSem sig) : Fin 2 := ⟨(n.val - 6) / 4 % 2, Nat.mod_lt _ (by decide)⟩
abbrev isRecv (n : DmaSem sig) : Prop := 6 ≤ n.val ∧ (n.val - 6) / 2 % 2 = 1

def payload (g : GSem nD τ sig) (r : ℕ) (d : Fin 2) : sProp 𝕄 :=
  match g.2 with
  | .reg _ => give d (nb d g.1.1) 0
  | .dma n => if isRecv n then recvPay msg (lnk n) g.1.1 (2 * r + n.val % 2) else sendPay msg (lnk n) g.1.1 (2 * r + n.val % 2)

def duties (g : GSem nD τ sig) (r : ℕ) : Finset (Fin 2) :=
  if g.1.2 = .tc then
    match g.2 with
    | .reg _ => if r = 0 then Finset.univ else ∅
    | .dma n => if 6 ≤ n.val ∧ r < 4 then {0} else ∅
  else ∅

def amount (g : GSem nD τ sig) : ℕ :=
  match g.2 with
  | .reg _ => 1
  | .dma _ => N

/-- The schedule. A barrier cell has one round, one signal from either neighbour; a send or receive cell has four, one block each. -/
def exRd : Rounds.Schedule (GSem nD τ sig) (Fin 2) 𝕄 where
  duties := duties
  unitless _ := False
  amount g _ _ := amount g
  payload := payload msg
  amount_pos g _ _ _ := by
    unfold amount
    split
    · exact Nat.one_pos
    · exact N_pos

instance exRd_payload_storable (g : GSem nD τ sig) (r : ℕ) (d : Fin 2) :
    BI.Storable (upEmb : UEmb _ 𝕄) ((exRd (F := F) msg).payload g r d) := by
  show BI.Storable upEmb (payload msg g r d)
  unfold payload recvPay sendPay
  (repeat' split) <;> infer_instance

/-! ## The schedule's tables -/

theorem sendS_val (l b : Fin 2) : (sendS l b).val = 6 + 4 * l.val + b.val := rfl
theorem recvS_val (l b : Fin 2) : (recvS l b).val = 8 + 4 * l.val + b.val := rfl

theorem lnk_sendS (l b : Fin 2) : lnk (sendS l b) = l := by revert l b; decide
theorem lnk_recvS (l b : Fin 2) : lnk (recvS l b) = l := by revert l b; decide
theorem isRecv_recvS (l b : Fin 2) : isRecv (recvS l b) := by revert l b; decide
theorem not_isRecv_sendS (l b : Fin 2) : ¬ isRecv (sendS l b) := by revert l b; decide

theorem round_slot (t : ℕ) : 2 * (t / 2) + t % 2 = t := by omega

theorem duties_bar (c : Dev nD) : duties (barCell c) 0 = Finset.univ := rfl
theorem duties_send (l b : Fin 2) (c : Dev nD) {r : ℕ} (h : r < 4) : duties (sendCell l b c) r = {0} := by
  show (if 6 ≤ (sendS l b).val ∧ r < 4 then ({0} : Finset (Fin 2)) else ∅) = {0}
  exact if_pos ⟨by rw [sendS_val]; omega, h⟩
theorem duties_recv (l b : Fin 2) (c : Dev nD) {r : ℕ} (h : r < 4) : duties (recvCell l b c) r = {0} := by
  show (if 6 ≤ (recvS l b).val ∧ r < 4 then ({0} : Finset (Fin 2)) else ∅) = {0}
  exact if_pos ⟨by rw [recvS_val]; omega, h⟩
theorem duties_bar_later (c : Dev nD) {r : ℕ} (h : 1 ≤ r) : duties (barCell c) r = ∅ := by
  show (if r = 0 then (Finset.univ : Finset (Fin 2)) else ∅) = ∅
  exact if_neg (by omega)
theorem duties_dma_later (c : Dev nD) (n : DmaSem sig) {r : ℕ} (h : 4 ≤ r) : duties ((c : Thread nD τ), .dma n) r = ∅ := by
  show (if 6 ≤ n.val ∧ r < 4 then ({0} : Finset (Fin 2)) else ∅) = ∅
  exact if_neg (by omega)

theorem payload_send (l : Fin 2) (c : Dev nD) (t : ℕ) :
    payload msg (sendCell l (slotOf t) c) (t / 2) 0 = sendPay msg l c t := by
  show (if isRecv (sendS l (slotOf t)) then _ else sendPay msg (lnk (sendS l (slotOf t))) c (2 * (t / 2) + (sendS l (slotOf t)).val % 2)) = _
  rw [if_neg (not_isRecv_sendS _ _), lnk_sendS, show (sendS l (slotOf t)).val % 2 = t % 2 by
    rw [sendS_val]; show (6 + 4 * l.val + t % 2) % 2 = t % 2; omega, round_slot]
theorem payload_recv (l : Fin 2) (c : Dev nD) (t : ℕ) :
    payload msg (recvCell l (slotOf t) c) (t / 2) 0 = recvPay msg l c t := by
  show (if isRecv (recvS l (slotOf t)) then recvPay msg (lnk (recvS l (slotOf t))) c (2 * (t / 2) + (recvS l (slotOf t)).val % 2) else _) = _
  rw [if_pos (isRecv_recvS _ _), lnk_recvS, show (recvS l (slotOf t)).val % 2 = t % 2 by
    rw [recvS_val]; show (8 + 4 * l.val + t % 2) % 2 = t % 2; omega, round_slot]

theorem expect_eq (g : GSem nD τ sig) (r : ℕ) : (exRd (F := F) msg).expect g r = ∑ _d ∈ duties g r, amount g := rfl
theorem amount_dma (c : Thread nD τ) (n : DmaSem sig) : amount (c, .dma n) = N := rfl
theorem amount_bar (c : Dev nD) : amount (barCell c) = 1 := rfl

theorem expect_bar (c : Dev nD) : (exRd (F := F) msg).expect (barCell c) 0 = 2 := by
  rw [expect_eq, duties_bar, amount_bar]; decide
theorem expect_send (l b : Fin 2) (c : Dev nD) {r : ℕ} (h : r < 4) : (exRd (F := F) msg).expect (sendCell l b c) r = N := by
  rw [expect_eq, duties_send l b c h, Finset.sum_singleton, amount_dma]
theorem expect_recv (l b : Fin 2) (c : Dev nD) {r : ℕ} (h : r < 4) : (exRd (F := F) msg).expect (recvCell l b c) r = N := by
  rw [expect_eq, duties_recv l b c h, Finset.sum_singleton, amount_dma]

theorem rest_send (l : Fin 2) (c : Dev nD) {t : ℕ} (h : t < 8) :
    (bigSep ((exRd (F := F) msg).duties (sendCell l (slotOf t) c) (t / 2) \ ∅) fun d => (exRd msg).payload (sendCell l (slotOf t) c) (t / 2) d)
      = sendPay msg l c t := by
  show (bigSep (duties (sendCell l (slotOf t) c) (t / 2) \ ∅) fun d => payload msg (sendCell l (slotOf t) c) (t / 2) d) = _
  rw [duties_send l _ c (by omega), Finset.sdiff_empty, bigSep_singleton, payload_send]
theorem rest_recv (l : Fin 2) (c : Dev nD) {t : ℕ} (h : t < 8) :
    (bigSep ((exRd (F := F) msg).duties (recvCell l (slotOf t) c) (t / 2) \ ∅) fun d => (exRd msg).payload (recvCell l (slotOf t) c) (t / 2) d)
      = recvPay msg l c t := by
  show (bigSep (duties (recvCell l (slotOf t) c) (t / 2) \ ∅) fun d => payload msg (recvCell l (slotOf t) c) (t / 2) d) = _
  rw [duties_recv l _ c (by omega), Finset.sdiff_empty, bigSep_singleton, payload_recv]
theorem rest_bar (c : Dev nD) :
    (bigSep ((exRd (F := F) msg).duties (barCell c) 0 \ ∅) fun d => (exRd msg).payload (barCell c) 0 d)
      = iprop(give 0 (nb 0 c) 0 ∗ give 1 (nb 1 c) 0) := by
  show (bigSep ((Finset.univ : Finset (Fin 2)) \ ∅) fun d => payload msg (barCell c) 0 d) = _
  rw [Finset.sdiff_empty, bigSep_univ_eq_bigSepL [0, 1] (by decide) (by decide)]
  rfl

/-! ## Levels, dues -/

/-- Every index a wait or a due can carry: the step, for the receive cells; 0 everywhere else. -/
abbrev L (g : GSem nD τ sig) : Finset ℕ := if g.1.2 = .tc then Finset.range 8 else ∅

/-- The levels: staging and send semaphores lowest, then the barrier, then the receive cells step by step, link 0's below link 1's. -/
abbrev lv (g : GSem nD τ sig) (i : ℕ) : ℕ :=
  match g.2 with
  | .reg _ => 1
  | .dma n => if isRecv n then 2 * i + 2 + (lnk n).val else 0

theorem lv_send (l b : Fin 2) (c : Dev nD) (i : ℕ) : lv (sendCell l b c) i = 0 := if_neg (not_isRecv_sendS l b)
theorem lv_recv (l b : Fin 2) (c : Dev nD) (i : ℕ) : lv (recvCell l b c) i = 2 * i + 2 + l.val := by
  show (if isRecv (recvS l b) then 2 * i + 2 + (lnk (recvS l b)).val else 0) = _
  rw [if_pos (isRecv_recvS l b), lnk_recvS]

/-- The blocks device `c` still has to send on link `l` from step `t` on. -/
def due (l : Fin 2) (c : Dev nD) (t : ℕ) : CellTallies nD τ sig ℕ :=
  ∑ u ∈ Finset.Ico t 8, tallyAt (recvCell l (slotOf u) (nb l c)) u N

/-- The signals device `c` owes its neighbours' barriers. -/
def dueBar (c : Dev nD) : CellTallies nD τ sig ℕ := tallyAt (barCell (nb 0 c)) 0 1 + tallyAt (barCell (nb 1 c)) 0 1

theorem due_succ (l : Fin 2) (c : Dev nD) {t : ℕ} (h : t < 8) :
    due l c t = due l c (t + 1) + tallyAt (recvCell l (slotOf t) (nb l c)) t N := by
  unfold due
  rw [Finset.sum_eq_sum_Ico_succ_bot h, add_comm]
theorem due_last (l : Fin 2) (c : Dev nD) : due l c 8 = 0 := by unfold due; simp

end Cert.Exchange

end
-- ==== Proof.Steps.lean ====
/-
  One step of the exchange on one link: the copy out, the wait for it, the wait for the neighbour's block.

  What a device carries of a link before step `t` is `Ready l c t`: its positions on the link's four semaphore cells, the tokens of the
  copies it still has to make, the credits of the blocks it still has to receive, and the slots: the neighbour's slot of step `t`, and
  its own slot of step `t + 1`. The three lemmas `wp_put`, `wp_left`, `wp_come` take it through `Sent` and `Left` to `Come`, and
  `ready_succ` from there to `Ready l c (t + 1)`.
-/
module

public import proofs.«01_k».proof.Proof.Sched
public import Idealize.ShloMosaic.Lib.MemrefSat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-! ## The cells -/

/-- The semaphores of the call's own: per link two send and two receive semaphores. -/
def osem (k : Fin 8) : SemLoc sig := .dma (⟨6 + k.val, by have := k.isLt; show _ < 14; omega⟩ : DmaSem sig)

theorem osem_inj : Function.Injective osem := by decide
theorem osem_ne_bar (k : Fin 8) : osem k ≠ .reg barS := by revert k; decide

def barEmb : Dev nD ↪ GSem nD τ sig := ⟨fun c => barCell c, fun _ _ h => congrArg (fun g : GSem nD τ sig => g.1.1) h⟩
def exEmb : Dev nD × Fin 8 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev exCells : Finset (GSem nD τ sig) := Finset.univ.map exEmb

/-- The place of a link's send and receive semaphores among the call's own. -/
def sendIx (l b : Fin 2) : Fin 8 := ⟨4 * l.val + b.val, by omega⟩
def recvIx (l b : Fin 2) : Fin 8 := ⟨2 + 4 * l.val + b.val, by omega⟩

theorem sendCell_eq (l b : Fin 2) (c : Dev nD) : sendCell l b c = exEmb (c, sendIx l b) :=
  Prod.ext rfl ((by decide : ∀ l b : Fin 2, (.dma (sendS l b) : SemLoc sig) = osem (sendIx l b)) l b)
theorem recvCell_eq (l b : Fin 2) (c : Dev nD) : recvCell l b c = exEmb (c, recvIx l b) :=
  Prod.ext rfl ((by decide : ∀ l b : Fin 2, (.dma (recvS l b) : SemLoc sig) = osem (recvIx l b)) l b)

theorem bar_mem (c : Dev nD) : barCell c ∈ (barCells ∪ exCells : Finset (GSem nD τ sig)) :=
  Finset.mem_union_left _ (Finset.mem_map_of_mem barEmb (Finset.mem_univ c))
theorem send_mem (l b : Fin 2) (c : Dev nD) : sendCell l b c ∈ (barCells ∪ exCells : Finset (GSem nD τ sig)) := by
  rw [sendCell_eq]; exact Finset.mem_union_right _ (Finset.mem_map_of_mem exEmb (Finset.mem_univ _))
theorem recv_mem (l b : Fin 2) (c : Dev nD) : recvCell l b c ∈ (barCells ∪ exCells : Finset (GSem nD τ sig)) := by
  rw [recvCell_eq]; exact Finset.mem_union_right _ (Finset.mem_map_of_mem exEmb (Finset.mem_univ _))

section

variable (msg : Fin 2 → Dev nD → ℕ → S1024x1024.Idx → Elt F .bf16)

/-- Every cell's invariant, under one map of names. -/
def invs (K : GSem nD τ sig → ℕ) : sProp 𝕄 := bigSep (barCells ∪ exCells) fun g => cellInv ER (exRd msg) (K g) g

instance invs_persistent (K : GSem nD τ sig → ℕ) : BI.Persistent (invs msg K) := by unfold invs; infer_instance

theorem inv_at (K : GSem nD τ sig → ℕ) {g : GSem nD τ sig} (hg : g ∈ (barCells ∪ exCells : Finset (GSem nD τ sig))) :
    invs msg K ⊢ cellInv ER (exRd msg) (K g) g := bigSep_elim hg

end

/-! ## What a device carries of a link -/

/-- At the start of a round: the owner's position, and that the round is reached. -/
def at_ (g : GSem nD τ sig) (r : ℕ) : sProp 𝕄 := iprop(atPos ER g r ∅ 0 ∗ reached ER g r)

abbrev sendAt (l : Fin 2) (c : Dev nD) (t : ℕ) : sProp 𝕄 := at_ (sendCell l (slotOf t) c) (t / 2)
abbrev recvAt (l : Fin 2) (c : Dev nD) (t : ℕ) : sProp 𝕄 := at_ (recvCell l (slotOf t) c) (t / 2)

/-- The tokens of the copies from step `t` on: the departure's and the arrival's. -/
def toks (l : Fin 2) (c : Dev nD) (t : ℕ) : sProp 𝕄 :=
  bigSep (Finset.Ico t 8) fun u => iprop(dutyTok ER (sendCell l (slotOf u) c) (u / 2) 0 ∗ dutyTok ER (recvCell l (slotOf u) (nb l c)) (u / 2) 0)

/-- The credits of the blocks to come from step `t` on. -/
def creds (l : Fin 2) (c : Dev nD) (t : ℕ) : sProp 𝕄 :=
  bigSep (Finset.Ico t 8) fun u => cred (tallyAt (recvCell l (slotOf u) c) u N)

/-- After the last send nothing is handed over: the own slot stays. -/
def keep (l : Fin 2) (c : Dev nD) (t : ℕ) : sProp 𝕄 := if t < 8 then iprop(emp) else anySlot l (slotOf t) c

/-- The slots before step `t`: the right to write the neighbour's slot of the step, and the own slot of the step after it; past the last
    step both own slots. -/
def slots (l : Fin 2) (c : Dev nD) (t : ℕ) : sProp 𝕄 :=
  if t < 8 then iprop(give l (nb l c) t ∗ anySlot l (slotOf (t + 1)) c) else iprop(anySlot l (slotOf t) c ∗ anySlot l (slotOf (t + 1)) c)

def Ready (l : Fin 2) (c : Dev nD) (t : ℕ) : sProp 𝕄 :=
  iprop((sendAt l c t ∗ sendAt l c (t + 1)) ∗ (recvAt l c t ∗ recvAt l c (t + 1)) ∗ toks l c t ∗ creds l c t ∗ slots l c t)
def Sent (l : Fin 2) (c : Dev nD) (t : ℕ) : sProp 𝕄 :=
  iprop((sendAt l c t ∗ sendAt l c (t + 1) ∗ cred (tallyAt (sendCell l (slotOf t) c) 0 N)) ∗ (recvAt l c t ∗ recvAt l c (t + 1))
    ∗ toks l c (t + 1) ∗ creds l c t ∗ keep l c (t + 1))
def Left (l : Fin 2) (c : Dev nD) (t : ℕ) : sProp 𝕄 :=
  iprop((sendAt l c (t + 1) ∗ sendAt l c (t + 2)) ∗ (recvAt l c t ∗ recvAt l c (t + 1))
    ∗ toks l c (t + 1) ∗ creds l c t ∗ keep l c (t + 1))
def Come (l : Fin 2) (c : Dev nD) (t : ℕ) : sProp 𝕄 :=
  iprop((sendAt l c (t + 1) ∗ sendAt l c (t + 2)) ∗ (recvAt l c (t + 1) ∗ recvAt l c (t + 2))
    ∗ toks l c (t + 1) ∗ creds l c (t + 1) ∗ keep l c (t + 1) ∗ give l (nb l c) (t + 1))

theorem toks_succ (l : Fin 2) (c : Dev nD) {t : ℕ} (h : t < 8) : (toks l c t : sProp 𝕄)
    = iprop((dutyTok ER (sendCell l (slotOf t) c) (t / 2) 0 ∗ dutyTok ER (recvCell l (slotOf t) (nb l c)) (t / 2) 0) ∗ toks l c (t + 1)) := by
  unfold toks
  rw [← Finset.insert_Ico_add_one_left_eq_Ico h, bigSep_insert (by simp)]
  rfl

theorem creds_succ (l : Fin 2) (c : Dev nD) {t : ℕ} (h : t < 8) : (creds l c t : sProp 𝕄)
    = iprop(cred (tallyAt (recvCell l (slotOf t) c) t N) ∗ creds l c (t + 1)) := by
  unfold creds
  rw [← Finset.insert_Ico_add_one_left_eq_Ico h, bigSep_insert (by simp)]
  rfl

/-- The block just read, the step is over. -/
theorem ready_succ (l : Fin 2) (c : Dev nD) (t : ℕ) (h : t < 8) :
    iprop(Come l c t ∗ anySlot l (slotOf t) c) ⊢ (Ready l c (t + 1) : sProp 𝕄) := by
  have hs : iprop((keep l c (t + 1) ∗ give l (nb l c) (t + 1)) ∗ anySlot l (slotOf t) c) ⊢ (slots l c (t + 1) : sProp 𝕄) := by
    unfold slots keep
    rw [slotOf_add_two t]
    by_cases ht : t + 1 < 8
    · rw [if_pos ht, if_pos ht]
      iintro ⟨⟨-, HG⟩, Hs⟩
      isplitl [HG] <;> iassumption
    · rw [if_neg ht, if_neg ht]
      iintro ⟨⟨HK, -⟩, Hs⟩
      isplitl [HK] <;> iassumption
  unfold Come Ready
  iintro ⟨⟨HS, HR, HT, HC, HK, HG⟩, Hs⟩
  isplitl [HS]; · iexact HS
  isplitl [HR]; · iexact HR
  isplitl [HT]; · iexact HT
  isplitl [HC]; · iexact HC
  iapply hs
  isplitl [HK HG]
  · isplitl [HK] <;> iassumption
  iexact Hs

/-- The own slot of step `t`, given away with what says its cell has come to that step's round. -/
theorem give_own (l : Fin 2) (c : Dev nD) (t : ℕ) :
    iprop(anySlot l (slotOf t) c ∗ reached ER (recvCell l (slotOf t) c) (t / 2)) ⊢ (iprop(give l c t ∗ keep l c t) : sProp 𝕄) := by
  unfold give keep
  by_cases ht : t < 8
  · rw [if_pos ht, if_pos ht]
    iintro H
    isplitl [H]; · iexact H
    iempintro
  · rw [if_neg ht, if_neg ht]
    iintro ⟨H, -⟩
    isplitr; · iempintro
    iexact H

/-! ## What is owed lies above what is waited for -/

theorem due_pos {l : Fin 2} {c : Dev nD} {t : ℕ} {g : GSem nD τ sig} {i : ℕ} (h : 0 < due l c t g i) :
    t ≤ i ∧ i ∈ L g ∧ lv g i = 2 * i + 2 + l.val := by
  unfold due at h
  rw [Finset.sum_apply, Finsupp.finset_sum_apply] at h
  obtain ⟨u, hu, hpos⟩ := Finset.exists_ne_zero_of_sum_ne_zero h.ne'
  rw [tallyAt_apply] at hpos
  split at hpos
  · next hg =>
    obtain ⟨rfl, rfl⟩ := hg
    rw [Finset.mem_Ico] at hu
    exact ⟨hu.1, by rw [L, if_pos rfl, Finset.mem_range]; exact hu.2, lv_recv _ _ _ _⟩
  · exact absurd rfl hpos

theorem dues_pos {c : Dev nD} {t₀ t₁ : ℕ} {g : GSem nD τ sig} {i : ℕ} (h : 0 < (due 0 c t₀ + due 1 c t₁) g i) :
    i ∈ L g ∧ (2 * t₀ + 2 ≤ lv g i ∨ 2 * t₁ + 3 ≤ lv g i) := by
  rw [Pi.add_apply, Finsupp.add_apply] at h
  rcases Nat.add_pos_iff_pos_or_pos.mp h with h | h
  · obtain ⟨h1, h2, h3⟩ := due_pos h
    exact ⟨h2, .inl (by rw [h3]; show _ ≤ 2 * i + 2 + 0; omega)⟩
  · obtain ⟨h1, h2, h3⟩ := due_pos h
    exact ⟨h2, .inr (by rw [h3]; show _ ≤ 2 * i + 2 + 1; omega)⟩

/-- A wait at a level below every block still owed. -/
theorem may_wait (c : Dev nD) (sm : SemLoc sig) (i t₀ t₁ b : ℕ) (hi : i < 8) (hb : lv (c, sm) i ≤ b) (h₀ : b < 2 * t₀ + 2)
    (h₁ : b < 2 * t₁ + 3) : (levAts L lv : sProp 𝕄) ⊢ MayWait (c : Thread nD τ) sm i (due 0 c t₀ + due 1 c t₁) :=
  MayOwe.of_cut (L := L) (lev := lv) b
    (fun p hp => by rw [Finset.mem_singleton.mp hp, L, if_pos rfl, Finset.mem_range]; exact hi)
    (fun g u hg => (dues_pos hg).1)
    (fun p hp => by rw [Finset.mem_singleton.mp hp]; exact hb)
    (fun g u hg => by rcases (dues_pos hg).2 with h | h <;> omega)

/-! ## The three operations of a step -/

section

variable (msg : Fin 2 → Dev nD → ℕ → S1024x1024.Idx → Elt F .bf16) (K : GSem nD τ sig → ℕ)

/-- Every block's copy adds the same number of bytes. -/
theorem credit_eq (a : Memref sig .tc .vmem S1024x1024 .bf16) : a.view.dmaCredit = N := by
  unfold N; rfl

set_option maxHeartbeats 800000 in
/-- THE COPY of the step's block to the neighbour's slot. It takes along the right to send the next block back. -/
theorem wp_put {α : Type} {Q : α → sProp 𝕄} (l : Fin 2) (c : Dev nD) (t : ℕ) (ht : t < 8) {dev : Dev nD}
    {src dst : Memref sig .tc .vmem S1024x1024 .bf16} {sS sem : DmaSem sig}
    (hsrc : src = srcM l t) (hdst : dst = slotM l (slotOf t)) (hdev : dev = nb l c) (hsS : sS = sendS l (slotOf t)) (hsem : sem = recvS l (slotOf t))
    {h1 : src.view.WordExact} {h2 : dst.view.WordExact} {h0 : dst.view.ref.isScScratch = false}
    {h3 : DmaTarget.Typed .vmem (.dma sem) (.remote (dev : Thread nD τ) dst (.dma sS) h0)}
    {k : PUnit → Prog (TpuEff nD τ sig (Elt F) Λ₀ .tc) α} {O₀ : CellTallies nD τ sig ℕ} (O : CellTallies nD τ sig ℕ)
    (hO : O₀ = O + tallyAt (recvCell l (slotOf t) (nb l c)) t N) (W : Waits sig ℕ) :
    iprop(invs msg K ∗ Ready l c t ∗ owns (c : Thread nD τ) src (srcShare l) (msg l c t) ∗ owes (c : Thread nD τ) O₀ W)
      ⊢ iprop(((Sent l c t ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (dev : Thread nD τ) dst (.dma sS) h0) (.dma sem) h1 h2 h3) k) Q) := by
  subst hsrc hdst hdev hsS hsem
  unfold Ready
  rw [toks_succ l c ht, show (slots l c t : sProp 𝕄) = iprop(give l (nb l c) t ∗ anySlot l (slotOf (t + 1)) c) from if_pos ht,
    show (give l (nb l c) t : sProp 𝕄) = iprop(anySlot l (slotOf t) (nb l c) ∗ reached ER (recvCell l (slotOf t) (nb l c)) (t / 2)) from if_pos ht]
  unfold sendAt recvAt at_ anySlot owns
  iintro ⟨#HI, ⟨⟨⟨HaS, #HrS⟩, HS1⟩, ⟨HR0, ⟨HaR1, #HrR1⟩⟩, ⟨⟨HtS, HtR⟩, HT⟩, HC, ⟨⟨⟨%fd, Hd⟩, #HrN⟩, Hown⟩⟩, ⟨%fs, %hfs, Hs⟩, HO⟩ Hk
  ihave Hg := (give_own l c (t + 1)) $$ [Hown]
  · isplitl [Hown]; · unfold anySlot; iexact Hown
    iexact HrR1
  icases Hg with ⟨Hg, Hkeep⟩
  iapply (Rounds.wp_send_pointsTo_with 𝒱₀ ER (exRd msg) (c : Thread nD τ) none (c' := (nb l c : Thread nD τ)) (src := srcM l t)
      (dst := slotM l (slotOf t)) (sS := .dma (sendS l (slotOf t))) (sem := .dma (recvS l (slotOf t))) (q := srcShare l) (fs := fs)
      (κ₁ := K (sendCell l (slotOf t) c)) (κ₂ := K (recvCell l (slotOf t) (nb l c))) (r₁ := t / 2) (r₂ := t / 2) (d₁ := 0) (d₂ := 0) (fd := fd)
      (F := give l c (t + 1))
      (by show 0 ∈ duties (sendCell l (slotOf t) c) (t / 2); rw [duties_send l _ c (by omega)]; exact Finset.mem_singleton_self _)
      (by show 0 ∈ duties (recvCell l (slotOf t) (nb l c)) (t / 2); rw [duties_recv l _ _ (by omega)]; exact Finset.mem_singleton_self _)
      t 0 N (credit_eq (slotM l (slotOf t))) rfl rfl O hO (W := W)
      (by
        show _ ⊢ payload msg (sendCell l (slotOf t) c) (t / 2) 0
        rw [payload_send]; unfold sendPay owns
        iintro H
        iexists fs
        isplitr; · ipureintro; exact hfs
        iexact H)
      (by
        show _ ⊢ payload msg (recvCell l (slotOf t) (nb l c)) (t / 2) 0
        rw [payload_recv]; unfold recvPay owns
        rw [nb_nb]
        iintro ⟨H, Hg⟩
        isplitl [H]
        · iexists ((slotM l (slotOf t)).view.write (Elt F) fd ((srcM l t).view.read (Elt F) fs) Finset.univ)
          isplitr
          · ipureintro; exact (View.read_write_univ _ _).trans hfs
          iexact H
        iexact Hg)) $$ [Hs Hd HO HtS HtR Hg]
  · isplitr; · iapply (inv_at msg K (send_mem l _ c)); iexact HI
    isplitr; · iapply (inv_at msg K (recv_mem l _ (nb l c))); iexact HI
    isplitl [Hs]; · iexact Hs
    isplitl [Hd Hg]
    · isplitl [Hd]; · iexact Hd
      iexact Hg
    isplitl [HO]; · iexact HO
    isplitl [HtS]; · iexact HtS
    isplitr; · iexact HrS
    isplitl [HtR]; · iexact HtR
    iexact HrN
  iintro ⟨HcS, HO⟩
  iapply Hk
  isplitr [HO]
  · unfold Sent sendAt recvAt at_
    isplitl [HaS HS1 HcS]
    · isplitl [HaS]
      · isplitl [HaS]; · iexact HaS
        iexact HrS
      isplitl [HS1]; · iexact HS1
      iexact HcS
    isplitl [HR0 HaR1]
    · isplitl [HR0]; · iexact HR0
      isplitl [HaR1]; · iexact HaR1
      iexact HrR1
    isplitl [HT]; · iexact HT
    isplitl [HC]; · iexact HC
    iexact Hkeep
  iexact HO

set_option maxHeartbeats 800000 in
/-- THE WAIT for the copy to have left: the source comes back. -/
theorem wp_left {α : Type} {Q : α → sProp 𝕄} (l : Fin 2) (c : Dev nD) (t : ℕ) (ht : t < 8) {src dst : Memref sig .tc .vmem S1024x1024 .bf16}
    {sem : DmaSem sig} (hsem : sem = sendS l (slotOf t)) {h1 : src.view.WordExact} {h2 : dst.view.WordExact}
    {k : PUnit → Prog (TpuEff nD τ sig (Elt F) Λ₀ .tc) α} (t₀ t₁ : ℕ) (W : Waits sig ℕ) :
    iprop(invs msg K ∗ levAts L lv ∗ Sent l c t ∗ owes (c : Thread nD τ) (due 0 c t₀ + due 1 c t₁) W)
      ⊢ iprop(((Left l c t ∗ owns (c : Thread nD τ) (srcM l t) (srcShare l) (msg l c t)
              ∗ owes (c : Thread nD τ) (due 0 c t₀ + due 1 c t₁) (insert (.dma (sendS l (slotOf t)), 0) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h1 h2) k) Q) := by
  subst hsem
  unfold Sent sendAt at_
  iintro ⟨#HI, #Hlev, ⟨⟨⟨HaS, #HrS⟩, HS1, HcS⟩, HR, HT, HC, Hkeep⟩, HO⟩ Hk
  iapply (Rounds.wp_wait_rest_token 𝒱₀ ER (exRd msg) (c : Thread nD τ) none (κ := K (sendCell l (slotOf t) c))
      (wpE_waitDma2_eq 𝒱₀ (c : Thread nD τ) none Set.univ) (Set.mem_univ _) 0 (O := due 0 c t₀ + due 1 c t₁) (W := W) (R := t / 2) (m := 0) (T := ∅)
      ((Nat.zero_add _).trans ((credit_eq dst).trans (expect_send msg l (slotOf t) c (by omega)).symm))) $$ [HcS HO HaS]
  · isplitr; · iapply (inv_at msg K (send_mem l _ c)); iexact HI
    isplitl [HcS]; · rw [credit_eq dst]; iexact HcS
    isplitl [HO]; · iexact HO
    isplitr
    · iapply (may_wait c _ 0 t₀ t₁ 0 (by omega) (lv_send l _ c 0).le (by omega) (by omega)); iexact Hlev
    iexact HaS
  iintro ⟨HO, HaS, #HrS', Hpay⟩
  ihave Hp := (Entails.of_eq (rest_send msg l c ht)) $$ Hpay
  iapply Hk
  isplitl [HaS HS1 HR HT HC Hkeep]
  · unfold Left sendAt at_
    rw [slotOf_add_two t, show (t + 2) / 2 = t / 2 + 1 by omega]
    isplitl [HS1 HaS]
    · isplitl [HS1]; · iexact HS1
      isplitl [HaS]; · iexact HaS
      iexact HrS'
    isplitl [HR]; · iexact HR
    isplitl [HT]; · iexact HT
    isplitl [HC]; · iexact HC
    iexact Hkeep
  isplitl [Hp]; · unfold sendPay; iexact Hp
  iexact HO

set_option maxHeartbeats 800000 in
/-- THE WAIT for the neighbour's block: it is in the own slot, and the neighbour's slot of the next step may be written. -/
theorem wp_come {α : Type} {Q : α → sProp 𝕄} (l : Fin 2) (c : Dev nD) (t : ℕ) (ht : t < 8) {src dst : Memref sig .tc .vmem S1024x1024 .bf16}
    {sem : DmaSem sig} (hsem : sem = recvS l (slotOf t)) {h1 : src.view.WordExact} {h2 : dst.view.WordExact}
    {k : PUnit → Prog (TpuEff nD τ sig (Elt F) Λ₀ .tc) α} (t₀ t₁ : ℕ) (h₀ : t < t₀) (h₁ : t + l.val ≤ t₁) (W : Waits sig ℕ) :
    iprop(invs msg K ∗ levAts L lv ∗ Left l c t ∗ owes (c : Thread nD τ) (due 0 c t₀ + due 1 c t₁) W)
      ⊢ iprop(((Come l c t ∗ owns (c : Thread nD τ) (slotM l (slotOf t)) fullShare (msg l (nb l c) t)
              ∗ owes (c : Thread nD τ) (due 0 c t₀ + due 1 c t₁) (insert (.dma (recvS l (slotOf t)), t) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h1 h2) k) Q) := by
  subst hsem
  unfold Left
  rw [creds_succ l c ht]
  unfold recvAt at_
  iintro ⟨#HI, #Hlev, ⟨HS, ⟨⟨HaR, #HrR⟩, HR1⟩, HT, ⟨HcR, HC⟩, Hkeep⟩, HO⟩ Hk
  iapply (Rounds.wp_wait_rest_token 𝒱₀ ER (exRd msg) (c : Thread nD τ) none (κ := K (recvCell l (slotOf t) c))
      (wpE_waitDma2_eq 𝒱₀ (c : Thread nD τ) none Set.univ) (Set.mem_univ _) t (O := due 0 c t₀ + due 1 c t₁) (W := W) (R := t / 2) (m := 0) (T := ∅)
      ((Nat.zero_add _).trans ((credit_eq dst).trans (expect_recv msg l (slotOf t) c (by omega)).symm))) $$ [HcR HO HaR]
  · isplitr; · iapply (inv_at msg K (recv_mem l _ c)); iexact HI
    isplitl [HcR]; · rw [credit_eq dst]; iexact HcR
    isplitl [HO]; · iexact HO
    isplitr
    · iapply (may_wait c _ t t₀ t₁ _ ht (lv_recv l _ c t).le (by omega) (by omega)); iexact Hlev
    iexact HaR
  iintro ⟨HO, HaR, #HrR', Hpay⟩
  ihave Hp := (Entails.of_eq (rest_recv msg l c ht)) $$ Hpay
  unfold recvPay
  icases Hp with ⟨Hb, Hg⟩
  iapply Hk
  isplitl [HS HaR HR1 HT HC Hkeep Hg]
  · unfold Come recvAt at_
    rw [slotOf_add_two t, show (t + 2) / 2 = t / 2 + 1 by omega]
    isplitl [HS]; · iexact HS
    isplitl [HR1 HaR]
    · isplitl [HR1]; · iexact HR1
      isplitl [HaR]; · iexact HaR
      iexact HrR'
    isplitl [HT]; · iexact HT
    isplitl [HC]; · iexact HC
    isplitl [Hkeep]; · iexact Hkeep
    iexact Hg
  isplitl [Hb]; · iexact Hb
  iexact HO

end

end Cert.Exchange

end
-- ==== Proof.Body.lean ====
/-
  The kernel's memory operations on what a device holds, and what one step computes.

  First the words of the program (slots, semaphores, offsets) at a symbolic step and device; then the loads and stores; then the two
  values of a step: the sum of the own block and the neighbour's, and the two halves of the result block.
-/
module

public import proofs.«01_k».proof.Proof.Steps
public import Idealize.ShloMosaic.Lib.WritesUnit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem cond_iff (i : grid0.Coords) : k0_cond1 i = 1#1 ↔ (i 0).val = 0 := by revert i; decide

theorem sem_send0 (i : grid0.Coords) : ((cc0_scratch3.slice (Rect.unit (s := S2) (k0_off1 i) S1.size (Facts₀.k0_off1_inb i))).squeeze S_ squeezes_S1_S_).sem
    = sendS 0 (slotOf (i 0).val) := by revert i; decide
theorem sem_recv0 (i : grid0.Coords) : ((cc0_scratch4.slice (Rect.unit (s := S2) (k0_off1 i) S1.size (Facts₀.k0_off1_inb i))).squeeze S_ squeezes_S1_S_).sem
    = recvS 0 (slotOf (i 0).val) := by revert i; decide
theorem sem_send1 (i : grid0.Coords) : ((cc0_scratch5.slice (Rect.unit (s := S2) (k0_off1 i) S1.size (Facts₀.k0_off1_inb i))).squeeze S_ squeezes_S1_S_).sem
    = sendS 1 (slotOf (i 0).val) := by revert i; decide
theorem sem_recv1 (i : grid0.Coords) : ((cc0_scratch6.slice (Rect.unit (s := S2) (k0_off1 i) S1.size (Facts₀.k0_off1_inb i))).squeeze S_ squeezes_S1_S_).sem
    = recvS 1 (slotOf (i 0).val) := by revert i; decide
theorem off2_eq (i : grid0.Coords) : k0_off2 i = ![(slotOf (i 0).val).val, 0, 0] := by revert i; decide
theorem off3_eq (i : grid0.Coords) : k0_off3 i = ![(slotOf (i 0).val).val, 0, 0] := by revert i; decide
theorem off4_eq (c : Dev nD) : k0_off4 c = ![(c.val % 2) * 1024, 0] := by revert c; decide
theorem off5_eq (c : Dev nD) : k0_off5 c = ![(1 - c.val % 2) * 1024, 0] := by revert c; decide

theorem slot_eq (l : Fin 2) (i : grid0.Coords) (inb : ∀ a, (k0_off2 i) a + S1x1024x1024.size a ≤ S2x1024x1024.size a) :
    ((recvM l).slice (Rect.unit (s := S2x1024x1024) (k0_off2 i) S1x1024x1024.size inb) (fun _ => rfl)).squeeze S1024x1024 squeezes_S1x1024x1024_S1024x1024
      = slotM l (slotOf (i 0).val) :=
  congrArg (fun m : Memref sig .tc .vmem S1x1024x1024 .bf16 => m.squeeze S1024x1024 squeezes_S1x1024x1024_S1024x1024)
    (Memref.slice_unit_congr (recvM l) (off2_eq i) inb (slot_inb _) _ _)

/-! ## Loads and stores of what a device holds -/

/-- A load through a rectangle of a memref held at `X` reads `X` there. -/
theorem wp_load_owns {α : Type} {Q : α → sProp 𝕄} (c : Dev nD) {s : Shape} {e : EltTy} (m : Memref sig .tc .vmem s e) (r : Rect s) (q : PosShare TreeShare) (X : s.Idx → Elt F e)
    {hl : m.view.LoadsAt r.toLoadRect} {k : (r.shape.Idx → Elt F e) → Prog (TpuEff nD τ sig (Elt F) Λ₀ .tc) α} :
    owns (c : Thread nD τ) m q X
      ⊢ iprop((owns (c : Thread nD τ) m q X -∗ wp frame (wpE (defs₀ (F := F)) 𝒱₀ (c : Thread nD τ) none) Set.univ (k (fun x => X (r.toLoadRect.idx x))) Q)
        -∗ wp frame (wpE (defs₀ (F := F)) 𝒱₀ (c : Thread nD τ) none) Set.univ (.op (.load m r.toLoadRect hl) k) Q) := by
  unfold owns
  iintro ⟨%f, %hf, H⟩ Hk
  iapply (wp_load 𝒱₀ (c : Thread nD τ) none Set.univ (r := r.toLoadRect) (q := q) (f := f) (m.view.setOn_subset_set _)) $$ H
  iintro H
  rw [show m.view.readAt (Elt F) r.toLoadRect f = fun x => X (r.toLoadRect.idx x) from funext fun x => congrFun hf _]
  iapply Hk
  iexists f
  isplitr; · ipureintro; exact hf
  iexact H

/-- The rectangle that is the whole block. -/
abbrev wholeRect : Rect S1024x1024 := Rect.unit (s := S1024x1024) ![0, 0] S1024x1024.size inb_S1024x1024_S1024x1024_0_0

theorem wholeRect_idx (x : S1024x1024.Idx) : wholeRect.toLoadRect.idx x = x := by
  funext a
  refine Fin.ext ?_
  show (![0, 0] : Fin 2 → ℕ) a + 1 * (x a).val = (x a).val
  rw [show (![0, 0] : Fin 2 → ℕ) = fun _ => 0 by decide, one_mul, Nat.zero_add]

/-- A load of a whole block reads what is held. -/
theorem wp_load_block {α : Type} {Q : α → sProp 𝕄} (c : Dev nD) (m : Memref sig .tc .vmem S1024x1024 .bf16) (q : PosShare TreeShare) (X : S1024x1024.Idx → Elt F .bf16)
    {hl : m.view.LoadsAt wholeRect.toLoadRect} {k : (S1024x1024.Idx → Elt F .bf16) → Prog (TpuEff nD τ sig (Elt F) Λ₀ .tc) α} :
    owns (c : Thread nD τ) m q X
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m wholeRect.toLoadRect hl) k) Q) := by
  have h := wp_load_owns (Q := Q) c m wholeRect q X (hl := hl) (k := k)
  rwa [show (fun x => X (wholeRect.toLoadRect.idx x)) = X from funext fun x => congrArg X (wholeRect_idx x)] at h

/-- The elements a load of slot `b` reads are the slot's. -/
theorem slot_reads (l b : Fin 2) : (recvM l).view.setOn (slotRect b).toLoadRect.set ⊆ (slotM l b).view.set :=
  (((View.set_reshape (v := (recvM l).view.slice (slotRect b)) _).trans (View.set_slice (v := (recvM l).view) (slotRect b))).symm : _ = _).subset

/-- A load of slot `b` of a receive buffer reads, once its leading axis of extent one is dropped, what the slot holds. -/
theorem wp_load_slot {α : Type} {Q : α → sProp 𝕄} (c : Dev nD) (l b : Fin 2) {off : Fin 3 → ℕ} (hoff : off = ![b.val, 0, 0])
    (inb : ∀ a, off a + S1x1024x1024.size a ≤ S2x1024x1024.size a) (X : S1024x1024.Idx → Elt F .bf16)
    {hl : (recvM l).view.LoadsAt (Rect.unit (s := S2x1024x1024) off S1x1024x1024.size inb).toLoadRect}
    {k : (S1x1024x1024.Idx → Elt F .bf16) → Prog (TpuEff nD τ sig (Elt F) Λ₀ .tc) α} :
    (owns (c : Thread nD τ) (slotM l b) fullShare X : sProp 𝕄)
      ⊢ iprop((∀ v : S1x1024x1024.Idx → Elt F .bf16, ⌜shapeCast S1024x1024 v shapeCasts_S1x1024x1024_S1024x1024 = X⌝ -∗
            anySlot (F := F) l b c -∗ wp frame (wpE (defs₀ (F := F)) 𝒱₀ (c : Thread nD τ) none) Set.univ (k v) Q)
        -∗ wp frame (wpE (defs₀ (F := F)) 𝒱₀ (c : Thread nD τ) none) Set.univ
            (.op (.load (recvM l) (Rect.unit (s := S2x1024x1024) off S1x1024x1024.size inb).toLoadRect hl) k) Q) := by
  subst hoff
  unfold owns anySlot
  iintro ⟨%f, %hf, H⟩ Hk
  have hf' : shapeCast S1024x1024 ((recvM l).view.readAt (Elt F) (slotRect b).toLoadRect f) shapeCasts_S1x1024x1024_S1024x1024 = X := hf
  iapply (wp_load 𝒱₀ (c : Thread nD τ) none Set.univ (m := recvM l) (r := (slotRect b).toLoadRect) (q := fullShare) (f := f)
    (S := (slotM l b).view.set) (slot_reads l b)) $$ H
  iintro H
  iapply Hk $$ [] [H]
  · ipureintro; exact hf'
  · iexists f
    iexact H

/-- A store of the whole of a memref leaves what was stored. -/
theorem wp_store_owns {α : Type} {Q : α → sProp 𝕄} (c : Dev nD) (m : Memref sig .tc .vmem S1024x1024 .bf16) (X w : S1024x1024.Idx → Elt F .bf16)
    {hx : (m.access (Rect.unit (s := S1024x1024) ![0, 0] S1024x1024.size inb_S1024x1024_S1024x1024_0_0)).Stores Finset.univ}
    {hm : (Finset.univ : Finset (Rect.unit (s := S1024x1024) ![0, 0] S1024x1024.size inb_S1024x1024_S1024x1024_0_0).shape.Idx) = Finset.univ
      ∨ ∀ a, (Rect.unit (s := S1024x1024) ![0, 0] S1024x1024.size inb_S1024x1024_S1024x1024_0_0).stride a = 1}
    {k : PUnit → Prog (TpuEff nD τ sig (Elt F) Λ₀ .tc) α} :
    owns (c : Thread nD τ) m fullShare X
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store m (Rect.unit (s := S1024x1024) ![0, 0] S1024x1024.size inb_S1024x1024_S1024x1024_0_0) w Finset.univ hx hm) k) Q) := by
  unfold owns
  iintro ⟨%f, -, H⟩ Hk
  iapply (wp_store 𝒱₀ (c : Thread nD τ) none Set.univ (m := m) (r := Rect.unit (s := S1024x1024) ![0, 0] S1024x1024.size inb_S1024x1024_S1024x1024_0_0)
    (w := w) (Mk := Finset.univ) (f := f) (S := m.view.set) (m.view.set_slice_subset _)) $$ H
  iintro H
  iapply Hk
  iexists _
  isplitr [H]
  rotate_left
  · iexact H
  ipureintro
  exact funext fun y => View.read_writes_cons_unit_of_mem m.view f inb_S1024x1024_S1024x1024_0_0 w [] y y
    (show (![0, 0] : Fin 2 → ℕ) = fun _ => 0 by decide) (fun a => (Nat.zero_add _).symm)

/-- A load of half the rows of the result block: the values are not used. -/
theorem wp_load_rows {α : Type} {Q : α → sProp 𝕄} (c : Dev nD) (m : Memref sig .tc .vmem S2048x1024 .f32) (f : m.view.ty.Contents (Elt F)) (r : Rect S2048x1024)
    {hl : m.view.LoadsAt r.toLoadRect} {k : (r.shape.Idx → Elt F .f32) → Prog (TpuEff nD τ sig (Elt F) Λ₀ .tc) α} :
    (m.view.loc (c : Thread nD τ) ↦[m.view.set]{fullShare} f)
      ⊢ iprop((∀ v, (m.view.loc (c : Thread nD τ) ↦[m.view.set]{fullShare} f)
            -∗ wp frame (wpE (defs₀ (F := F)) 𝒱₀ (c : Thread nD τ) none) Set.univ (k v) Q)
        -∗ wp frame (wpE (defs₀ (F := F)) 𝒱₀ (c : Thread nD τ) none) Set.univ (.op (.load m r.toLoadRect hl) k) Q) := by
  iintro H Hk
  iapply (wp_load 𝒱₀ (c : Thread nD τ) none Set.univ (r := r.toLoadRect) (q := fullShare) (f := f) (m.view.setOn_subset_set _)) $$ H
  iintro H
  iapply Hk $$ H

/-- A store into half the rows of the result block. -/
theorem wp_store_rows {α : Type} {Q : α → sProp 𝕄} (c : Dev nD) (m : Memref sig .tc .vmem S2048x1024 .f32) (f : m.view.ty.Contents (Elt F)) (r : Rect S2048x1024) (w : r.shape.Idx → Elt F .f32)
    {hx : (m.access r).Stores Finset.univ} {hm : (Finset.univ : Finset r.shape.Idx) = Finset.univ ∨ ∀ a, r.stride a = 1}
    {k : PUnit → Prog (TpuEff nD τ sig (Elt F) Λ₀ .tc) α} :
    (m.view.loc (c : Thread nD τ) ↦[m.view.set]{fullShare} f)
      ⊢ iprop(((m.view.loc (c : Thread nD τ) ↦[m.view.set]{fullShare} (m.view.writes (Elt F) f [⟨r, w⟩]))
            -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) :=
  wp_store 𝒱₀ (c : Thread nD τ) none Set.univ (m := m) (r := r) (w := w) (Mk := Finset.univ) (f := f) (S := m.view.set) (m.view.set_slice_subset _)

/-! ## What one step computes -/

/-- The sum of two blocks, rounded to bf16. -/
def sumBlk (a b : S1024x1024.Idx → Elt F .bf16) : S1024x1024.Idx → Elt F .bf16 :=
  shapeCast S1024x1024 (truncf .bf16 (addf (extf .f32 (shapeCast S1024x1024 (a : Vec F S1024x1024 .bf16) shapeCasts_S1024x1024_S1024x1024 : FVec F S1024x1024 .bf16) bitsLt_bf16_f32)
    (extf .f32 (b : FVec F S1024x1024 .bf16) bitsLt_bf16_f32)) bitsLt_bf16_f32) shapeCasts_S1024x1024_S1024x1024

/-- A block of bf16 as f32. -/
def widen (b : S1024x1024.Idx → Elt F .bf16) : S1024x1024.Idx → Elt F .f32 := extf .f32 (b : FVec F S1024x1024 .bf16) bitsLt_bf16_f32

theorem pay2_eq (a : S1024x1024.Idx → Elt F .bf16) (v : S1x1024x1024.Idx → Elt F .bf16) :
    k0_pay2 a v = sumBlk a (shapeCast S1024x1024 v shapeCasts_S1x1024x1024_S1024x1024) := rfl
theorem pay1_eq (v : S1x1024x1024.Idx → Elt F .bf16) :
    k0_pay1 v = widen (shapeCast S1024x1024 v shapeCasts_S1x1024x1024_S1024x1024) := rfl
theorem pay3_eq (v : S1024x1024.Idx → Elt F .bf16) : k0_pay3 v = widen v := rfl

/-- The row within its half, and the column. -/
def inHalf (y : S2048x1024.Idx) : S1024x1024.Idx
  | 0 => ⟨(y 0).val % 1024, Nat.mod_lt _ (by decide)⟩
  | 1 => ⟨(y 1).val, (y 1).isLt⟩

/-- The result block of device `c`: its own sum in the half its place along y names, the neighbour's in the other. -/
def outBlk (c : Dev nD) (mine theirs : S1024x1024.Idx → Elt F .bf16) : S2048x1024.Idx → Elt F .f32 := fun y =>
  if (y 0).val / 1024 = c.val % 2 then widen mine (inHalf y) else widen theirs (inHalf y)

/-- The two stores leave the result block, whatever was there. -/
theorem read_out (c : Dev nD) (m : Memref sig .tc .vmem S2048x1024 .f32) (f : m.view.ty.Contents (Elt F)) (mine theirs : S1024x1024.Idx → Elt F .bf16) :
    m.view.read (Elt F) (m.view.writes (Elt F) (m.view.writes (Elt F) f [⟨Rect.unit (s := S2048x1024) (k0_off4 c) S1024x1024.size (Facts₀.k0_off4_inb c), widen mine⟩])
      [⟨Rect.unit (s := S2048x1024) (k0_off5 c) S1024x1024.size (Facts₀.k0_off5_inb c), widen theirs⟩]) = outBlk c mine theirs := by
  funext y
  have hy : (y 0).val < 2048 := (y 0).isLt
  unfold outBlk
  by_cases h : (y 0).val / 1024 = c.val % 2
  · rw [if_pos h]
    refine (View.read_writes_cons_rows_of_not_mem (o := (1 - c.val % 2) * 1024) (W := 1024) m.view _ (Facts₀.k0_off5_inb c) (widen theirs) [] y (off5_eq c) rfl (by omega)).trans ?_
    rw [View.writes_nil]
    exact View.read_writes_cons_rows_of_mem (o := (c.val % 2) * 1024) m.view _ (Facts₀.k0_off4_inb c) (widen mine) [] y (inHalf y) (off4_eq c)
      (by show (y 0).val = _ + (y 0).val % 1024; omega) rfl
  · rw [if_neg h]
    exact View.read_writes_cons_rows_of_mem (o := (1 - c.val % 2) * 1024) m.view _ (Facts₀.k0_off5_inb c) (widen theirs) [] y (inHalf y) (off5_eq c)
      (by show (y 0).val = _ + (y 0).val % 1024; omega) rfl

end Cert.Exchange

end
-- ==== Proof.Point.lean ====
/-
  The kernel body at one step, run at a symbolic device.

  `barrier_run` is the exchange of rights that opens step 0: each device tells either neighbour that its slots may be written.
  `part1_run` is the first half of the body, up to the departure of the link-0 block; `body_run` is the whole body.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device holds before a step -/

/-- A link before the first step: both own slots, and no right yet to write the neighbour's. -/
def Fresh (l : Fin 2) (c : Dev nD) : sProp 𝕄 :=
  iprop((sendAt l c 0 ∗ sendAt l c 1) ∗ (recvAt l c 0 ∗ recvAt l c 1) ∗ toks l c 0 ∗ creds l c 0
    ∗ (anySlot l (slotOf 0) c ∗ anySlot l (slotOf 1) c))

/-- Before the barrier. -/
def Start (c : Dev nD) : sProp 𝕄 :=
  iprop(atPos ER (barCell c) 0 ∅ 0 ∗ (reached ER (barCell (nb 0 c)) 0 ∗ reached ER (barCell (nb 1 c)) 0)
    ∗ (dutyTok ER (barCell (nb 0 c)) 0 0 ∗ dutyTok ER (barCell (nb 1 c)) 0 1) ∗ cred (tallyAt (barCell c) 0 2)
    ∗ Fresh 0 c ∗ Fresh 1 c)

/-- After it, before step `t`. -/
def Running (c : Dev nD) (t : ℕ) : sProp 𝕄 := iprop(atPos ER (barCell c) 1 ∅ 0 ∗ Ready 0 c t ∗ Ready 1 c t)

/-- A link once its first own slot is given away. -/
def Opened (l : Fin 2) (c : Dev nD) : sProp 𝕄 :=
  iprop((sendAt l c 0 ∗ sendAt l c 1) ∗ (recvAt l c 0 ∗ recvAt l c 1) ∗ toks l c 0 ∗ creds l c 0 ∗ anySlot l (slotOf 1) c)

/-- The own slot of step 0 goes to the neighbour. -/
theorem fresh_give (l : Fin 2) (c : Dev nD) : (Fresh l c : sProp 𝕄) ⊢ iprop(Opened l c ∗ give l c 0) := by
  unfold Fresh Opened recvAt at_
  rw [show (give l c 0 : sProp 𝕄) = iprop(anySlot l (slotOf 0) c ∗ reached ER (recvCell l (slotOf 0) c) (0 / 2)) from if_pos (by decide)]
  iintro ⟨HS, ⟨⟨Ha, #Hr⟩, HR⟩, HT, HC, H0, H1⟩
  isplitr [H0]
  · isplitl [HS]; · iexact HS
    isplitl [Ha HR]
    · isplitl [Ha]
      · isplitl [Ha]; · iexact Ha
        iexact Hr
      iexact HR
    isplitl [HT]; · iexact HT
    isplitl [HC]; · iexact HC
    iexact H1
  isplitl [H0]; · iexact H0
  iexact Hr

/-- With the neighbour's slot of step 0 the link is ready. -/
theorem opened_ready (l : Fin 2) (c : Dev nD) : iprop(Opened l c ∗ give l (nb l c) 0) ⊢ (Ready l c 0 : sProp 𝕄) := by
  unfold Opened Ready
  rw [show (slots l c 0 : sProp 𝕄) = iprop(give l (nb l c) 0 ∗ anySlot l (slotOf (0 + 1)) c) from if_pos (by decide)]
  iintro ⟨⟨HS, HR, HT, HC, H1⟩, HG⟩
  isplitl [HS]; · iexact HS
  isplitl [HR]; · iexact HR
  isplitl [HT]; · iexact HT
  isplitl [HC]; · iexact HC
  isplitl [HG]; · iexact HG
  iexact H1

section

variable (msg : Fin 2 → Dev nD → ℕ → S1024x1024.Idx → Elt F .bf16) (K : GSem nD τ sig → ℕ)

/-- The signal to the neighbour on link `l`: it carries the right to write the own slot of step 0. -/
theorem wp_tell {α : Type} {Q : α → sProp 𝕄} (l : Fin 2) (c : Dev nD) {dev : Dev nD} (hdev : dev = nb l c)
    {k : PUnit → Prog (TpuEff nD τ sig (Elt F) Λ₀ .tc) α} {O₀ : CellTallies nD τ sig ℕ} (O : CellTallies nD τ sig ℕ)
    (hO : O₀ = O + tallyAt (barCell (nb l c)) 0 1) (W : Waits sig ℕ) :
    iprop(invs msg K ∗ owes (c : Thread nD τ) O₀ W ∗ dutyTok ER (barCell (nb l c)) 0 l ∗ give l c 0 ∗ reached ER (barCell (nb l c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev : Thread nD τ) barS (1#32 : BitVec 32).toInt) k) Q) := by
  subst hdev
  rw [show (1#32 : BitVec 32).toInt = ((1#32 : BitVec 32).toNat : Int) from rfl]
  iintro ⟨#HI, HO, Ht, Hg, Hr⟩ Hk
  iapply (Rounds.wp_signal 𝒱₀ ER (exRd msg) (c : Thread nD τ) none (dst := (nb l c : Thread nD τ)) (κ := K (barCell (nb l c)))
      (d := l) (r := 0) (by show l ∈ duties (barCell (nb l c)) 0; rw [duties_bar]; exact Finset.mem_univ _)
      (show (exRd msg).amount (barCell (nb l c)) 0 l = (1#32 : BitVec 32).toNat from rfl) 0 O hO) $$ [HO Ht Hg Hr]
  · isplitr; · iapply (inv_at msg K (bar_mem (nb l c))); iexact HI
    isplitl [HO]; · iexact HO
    isplitl [Ht]; · iexact Ht
    isplitl [Hg]
    · rw [show (exRd msg).payload (barCell (nb l c)) 0 l = (give l (nb l (nb l c)) 0 : sProp 𝕄) from rfl, nb_nb]
      iexact Hg
    iexact Hr
  iexact Hk

set_option maxHeartbeats 800000 in
/-- The barrier: both signals, and the wait for both neighbours'. -/
theorem barrier_run {α : Type} {Q : α → sProp 𝕄} (c : Dev nD) {d0 d1 : Dev nD} (h0 : d0 = nb 0 c) (h1 : d1 = nb 1 c)
    {k : PUnit → Prog (TpuEff nD τ sig (Elt F) Λ₀ .tc) α} (W : Waits sig ℕ) :
    iprop(invs msg K ∗ levAts L lv ∗ Start c ∗ owes (c : Thread nD τ) (due 0 c 0 + due 1 c 0 + dueBar c) W)
      ⊢ iprop(((Running c 0 ∗ owes (c : Thread nD τ) (due 0 c 0 + due 1 c 0) (insert (.reg barS, 0) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d0 : Thread nD τ) barS (1#32 : BitVec 32).toInt) fun _ =>
                .op (.semSignal (d1 : Thread nD τ) barS (1#32 : BitVec 32).toInt) fun _ =>
                  .op (.semWait barS (2#32 : BitVec 32).toInt) k) Q) := by
  have hO : due 0 c 0 + due 1 c 0 + (tallyAt (barCell (nb 0 c)) 0 1 + tallyAt (barCell (nb 1 c)) 0 1)
      = due 0 c 0 + due 1 c 0 + tallyAt (barCell (nb 1 c)) 0 1 + tallyAt (barCell (nb 0 c)) 0 1 := by rw [← add_assoc, add_right_comm]
  unfold Start dueBar
  iintro ⟨#HI, #Hlev, ⟨Ha, ⟨Hr0, Hr1⟩, ⟨Ht0, Ht1⟩, Hc, HF0, HF1⟩, HO⟩ Hk
  ihave HF0 := (fresh_give 0 c) $$ HF0
  icases HF0 with ⟨HF0, Hg0⟩
  ihave HF1 := (fresh_give 1 c) $$ HF1
  icases HF1 with ⟨HF1, Hg1⟩
  iapply (wp_tell msg K 0 c h0 (due 0 c 0 + due 1 c 0 + tallyAt (barCell (nb 1 c)) 0 1) hO W) $$ [HO Ht0 Hg0 Hr0]
  · isplitr; · iexact HI
    isplitl [HO]; · iexact HO
    isplitl [Ht0]; · iexact Ht0
    isplitl [Hg0] <;> iassumption
  iintro HO
  iapply (wp_tell msg K 1 c h1 (due 0 c 0 + due 1 c 0) rfl W) $$ [HO Ht1 Hg1 Hr1]
  · isplitr; · iexact HI
    isplitl [HO]; · iexact HO
    isplitl [Ht1]; · iexact Ht1
    isplitl [Hg1] <;> iassumption
  iintro HO
  rw [show (2#32 : BitVec 32).toInt = ((2 : ℕ) : Int) from rfl]
  iapply (Rounds.wp_wait_rest_token 𝒱₀ ER (exRd msg) (c : Thread nD τ) none (κ := K (barCell c))
      (wpE_semWait_eq 𝒱₀ (c : Thread nD τ) none Set.univ) (Set.mem_univ _) 0 (O := due 0 c 0 + due 1 c 0) (W := W) (R := 0) (m := 0) (T := ∅)
      ((Nat.zero_add 2).trans (expect_bar msg c).symm)) $$ [Hc HO Ha]
  · isplitr; · iapply (inv_at msg K (bar_mem c)); iexact HI
    isplitl [Hc]; · iexact Hc
    isplitl [HO]; · iexact HO
    isplitr
    · iapply (may_wait c (.reg barS) 0 0 0 1 (by omega) (le_of_eq rfl) (by omega) (by omega)); iexact Hlev
    iexact Ha
  iintro ⟨HO, Ha, -, Hpay⟩
  ihave Hp := (Entails.of_eq (rest_bar msg c)) $$ Hpay
  icases Hp with ⟨Hg0, Hg1⟩
  iapply Hk
  isplitr [HO]
  · unfold Running
    isplitl [Ha]; · iexact Ha
    isplitl [HF0 Hg0]
    · iapply (opened_ready 0 c)
      isplitl [HF0] <;> iassumption
    iapply (opened_ready 1 c)
    isplitl [HF1] <;> iassumption
  iexact HO

/-- What a device has before step `t`: at the first step the barrier is still to come. -/
def Enter (c : Dev nD) (t : ℕ) : sProp 𝕄 := if t = 0 then Start c else Running c t
/-- What it owes then. -/
def owed (c : Dev nD) (t : ℕ) : CellTallies nD τ sig ℕ := due 0 c t + due 1 c t + if t = 0 then dueBar c else 0

set_option maxHeartbeats 800000 in
/-- The link-0 block on its way, and the source back. -/
theorem depart_run {α : Type} {Q : α → sProp 𝕄} (c : Dev nD) (t : ℕ) (ht : t < 8) {dev : Dev nD}
    {src dst src' dst' : Memref sig .tc .vmem S1024x1024 .bf16} {sS sem sS' : DmaSem sig}
    (hsrc : src = srcM 0 t) (hdst : dst = slotM 0 (slotOf t)) (hdev : dev = nb 0 c) (hsS : sS = sendS 0 (slotOf t)) (hsem : sem = recvS 0 (slotOf t))
    (hsS' : sS' = sendS 0 (slotOf t))
    {h1 : src.view.WordExact} {h2 : dst.view.WordExact} {h0 : dst.view.ref.isScScratch = false}
    {h3 : DmaTarget.Typed .vmem (.dma sem) (.remote (dev : Thread nD τ) dst (.dma sS) h0)} {h4 : src'.view.WordExact} {h5 : dst'.view.WordExact}
    {k : PUnit → Prog (TpuEff nD τ sig (Elt F) Λ₀ .tc) α} (W : Waits sig ℕ) :
    iprop(invs msg K ∗ levAts L lv ∗ Running c t ∗ owns (c : Thread nD τ) src fullShare (msg 0 c t) ∗ owes (c : Thread nD τ) (due 0 c t + due 1 c t) W)
      ⊢ iprop((∀ W', (atPos ER (barCell c) 1 ∅ 0 ∗ Left 0 c t ∗ Ready 1 c t ∗ owns (c : Thread nD τ) src fullShare (msg 0 c t)
              ∗ owes (c : Thread nD τ) (due 0 c (t + 1) + due 1 c t) W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (dev : Thread nD τ) dst (.dma sS) h0) (.dma sem) h1 h2 h3) fun _ =>
                .op (.waitDma2 sS' src' dst' h4 h5) k) Q) := by
  have hO : due 0 c t + due 1 c t = due 0 c (t + 1) + due 1 c t + tallyAt (recvCell 0 (slotOf t) (nb 0 c)) t N := by
    rw [due_succ 0 c ht, add_right_comm]
  have hs : (owns (c : Thread nD τ) (srcM 0 t) (srcShare 0) (msg 0 c t) : sProp 𝕄) ⊢ owns (c : Thread nD τ) src fullShare (msg 0 c t) := by
    subst hsrc; exact .rfl
  unfold Running
  iintro ⟨#HI, #Hlev, ⟨Ha, HR0, HR1⟩, Hs, HO⟩ Hk
  iapply (wp_put msg K 0 c t ht hsrc hdst hdev hsS hsem (due 0 c (t + 1) + due 1 c t) hO W) $$ [HR0 Hs HO]
  · isplitr; · iexact HI
    isplitl [HR0]; · iexact HR0
    isplitl [Hs] <;> iassumption
  iintro ⟨HS, HO⟩
  iapply (wp_left msg K 0 c t ht hsS' (t + 1) t W) $$ [HS HO]
  · isplitr; · iexact HI
    isplitr; · iexact Hlev
    isplitl [HS] <;> iassumption
  iintro ⟨HL, Hs, HO⟩
  ihave Hs := hs $$ Hs
  iapply Hk
  isplitl [Ha]; · iexact Ha
  isplitl [HL]; · iexact HL
  isplitl [HR1]; · iexact HR1
  isplitl [Hs]; · iexact Hs
  iexact HO

section

variable {c : Dev nD} (i : grid0.Coords)
  (arg1 : Memref sig .tc .vmem S1024x1024 .bf16) (harg1 : arg1.IsWhole) (arg2 : Memref sig .tc .vmem S1024x1024 .bf16) (harg2 : arg2.IsWhole)
  (arg3 : Memref sig .tc .vmem S2048x1024 .f32) (harg3 : arg3.IsWhole)

set_option maxHeartbeats 1600000 in
/-- The first half of the body. -/
theorem part1_run (hsrc : arg2 = srcM 0 (i 0).val) (W : Waits sig ℕ)
    {Q : (Σ' (_ : BitVec 32) (_ : Dev nD) (_ : BitVec 32) (_ : BitVec 32), BitVec 32) → sProp 𝕄} :
    iprop(invs msg K ∗ levAts L lv ∗ Enter c (i 0).val ∗ owns (c : Thread nD τ) arg2 fullShare (msg 0 c (i 0).val)
        ∗ owes (c : Thread nD τ) (owed c (i 0).val) W
        ∗ (∀ v0 : BitVec 32, ∀ v3 : BitVec 32, ∀ v6 : BitVec 32, ∀ v8 : BitVec 32, ∀ W',
            (atPos ER (barCell c) 1 ∅ 0 ∗ Left 0 c (i 0).val ∗ Ready 1 c (i 0).val
              ∗ owns (c : Thread nD τ) arg2 fullShare (msg 0 c (i 0).val)
              ∗ owes (c : Thread nD τ) (due 0 c ((i 0).val + 1) + due 1 c (i 0).val) W') -∗ Q ⟨v0, c, v3, v6, v8⟩))
      ⊢ wp frame (wpE (defs₀ (F := F)) 𝒱₀ (c : Thread nD τ) none) Set.univ
          (k0_part1 i arg1 harg1 arg2 harg2 arg3 harg3 (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q := by
  have ht : (i 0).val < 8 := (i 0).isLt
  rw [k0_part1_eq_skeleton]; unfold k0_part1_skel
  by_cases h : k0_cond1 i = 1#1
  · have h0 : (i 0).val = 0 := (cond_iff i).mp h
    simp only [dif_pos h, semSignalWord, semWaitWord, Prog.lift, Prog.bind_op, Prog.bind_ret, Prog.pure_eq_ret, Prog.bind_assoc, wp_deviceId]
    have he : (Enter c (i 0).val : sProp 𝕄) ⊢ Start c := Entails.of_eq (if_pos h0)
    have ho : (owes (c : Thread nD τ) (owed c (i 0).val) W : sProp 𝕄) ⊢ owes (c : Thread nD τ) (due 0 c 0 + due 1 c 0 + dueBar c) W := by
      unfold owed; rw [if_pos h0, h0]
    have hr : iprop((Running c 0 : sProp 𝕄) ∗ owes (c : Thread nD τ) (due 0 c 0 + due 1 c 0) (insert (.reg barS, 0) W))
        ⊢ iprop(Running c (i 0).val ∗ owes (c : Thread nD τ) (due 0 c (i 0).val + due 1 c (i 0).val) (insert (.reg barS, 0) W)) := by
      rw [h0]
    iintro ⟨#HI, #Hlev, HE, Hs, HO, Hk⟩
    iapply (barrier_run msg K c (dev1_eq c _) (dev2_eq c _) W) $$ [HE HO]
    · isplitr; · iexact HI
      isplitr; · iexact Hlev
      isplitl [HE]; · iapply he; iexact HE
      iapply ho; iexact HO
    iintro HR
    ihave HR := hr $$ HR
    icases HR with ⟨HR, HO⟩
    iapply (depart_run msg K c (i 0).val ht hsrc (slot_eq 0 i _) (dev3_eq c _) (sem_send0 i) (sem_recv0 i) (sem_send0 i) _) $$ [HR Hs HO]
    · isplitr; · iexact HI
      isplitr; · iexact Hlev
      isplitl [HR]; · iexact HR
      isplitl [Hs] <;> iassumption
    iintro %W' H
    rw [wp_ret]
    imodintro
    iapply Hk; iexact H
  · have h0 : ¬ (i 0).val = 0 := fun e => h ((cond_iff i).mpr e)
    simp only [dif_neg h, Prog.lift, Prog.bind_op, Prog.bind_ret, Prog.pure_eq_ret, Prog.bind_assoc, wp_deviceId]
    have he : (Enter c (i 0).val : sProp 𝕄) ⊢ Running c (i 0).val := Entails.of_eq (if_neg h0)
    have ho : (owes (c : Thread nD τ) (owed c (i 0).val) W : sProp 𝕄) ⊢ owes (c : Thread nD τ) (due 0 c (i 0).val + due 1 c (i 0).val) W := by
      unfold owed; rw [if_neg h0, add_zero]
    iintro ⟨#HI, #Hlev, HE, Hs, HO, Hk⟩
    iapply (depart_run msg K c (i 0).val ht hsrc (slot_eq 0 i _) (dev3_eq c _) (sem_send0 i) (sem_recv0 i) (sem_send0 i) W) $$ [HE Hs HO]
    · isplitr; · iexact HI
      isplitr; · iexact Hlev
      isplitl [HE]; · iapply he; iexact HE
      isplitl [Hs]; · iexact Hs
      iapply ho; iexact HO
    iintro %W' H
    rw [wp_ret]
    imodintro
    iapply Hk; iexact H

set_option maxHeartbeats 4000000 in
/-- THE BODY at one step: the step's block of the result is what the two exchanges sum to. -/
theorem body_run (hsrc : arg2 = srcM 0 (i 0).val) (X0 : S1024x1024.Idx → Elt F .bf16)
    (hmsg : msg 1 c (i 0).val = sumBlk X0 (msg 0 (nb 0 c) (i 0).val)) (f3 : arg3.view.ty.Contents (Elt F)) (W : Waits sig ℕ) {Q : PUnit → sProp 𝕄} :
    iprop(invs msg K ∗ levAts L lv ∗ Enter c (i 0).val ∗ owns (c : Thread nD τ) arg1 fullShare X0
        ∗ owns (c : Thread nD τ) arg2 fullShare (msg 0 c (i 0).val)
        ∗ (∃ X, owns (c : Thread nD τ) (Memref.whole cc0_scratch1) fullShare X)
        ∗ (arg3.view.loc (c : Thread nD τ) ↦[arg3.view.set]{fullShare} f3)
        ∗ owes (c : Thread nD τ) (owed c (i 0).val) W
        ∗ (∀ W', (Running c ((i 0).val + 1) ∗ owns (c : Thread nD τ) arg1 fullShare X0
              ∗ owns (c : Thread nD τ) arg2 fullShare (msg 0 c (i 0).val)
              ∗ (∃ X, owns (c : Thread nD τ) (Memref.whole cc0_scratch1) fullShare X)
              ∗ owns (c : Thread nD τ) arg3 fullShare (outBlk c (msg 1 c (i 0).val) (msg 1 (nb 1 c) (i 0).val))
              ∗ owes (c : Thread nD τ) (due 0 c ((i 0).val + 1) + due 1 c ((i 0).val + 1)) W') -∗ Q ⟨⟩))
      ⊢ wp frame (wpE (defs₀ (F := F)) 𝒱₀ (c : Thread nD τ) none) Set.univ
          (cc0_body i arg1 harg1 arg2 harg2 arg3 harg3 (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q := by
  have ht : (i 0).val < 8 := (i 0).isLt
  have hO : due 0 c ((i 0).val + 1) + due 1 c (i 0).val
      = due 0 c ((i 0).val + 1) + due 1 c ((i 0).val + 1) + tallyAt (recvCell 1 (slotOf (i 0).val) (nb 1 c)) (i 0).val N := by
    rw [due_succ 1 c ht, add_assoc]
  rw [cc0_body_eq_skeleton]; unfold cc0_body_skel
  rw [wp_bind, k0_part2_eq_skeleton]; unfold k0_part2_skel
  simp only [Prog.lift, Prog.bind_op, Prog.bind_ret, Prog.pure_eq_ret, Prog.bind_assoc]
  iintro ⟨#HI, #Hlev, HE, H1, H2, ⟨%Xr, Hr⟩, H3, HO, Hk⟩
  iapply (part1_run msg K (c := c) i arg1 harg1 arg2 harg2 arg3 harg3 hsrc W)
  isplitr; · iexact HI
  isplitr; · iexact Hlev
  isplitl [HE]; · iexact HE
  isplitl [H2]; · iexact H2
  isplitl [HO]; · iexact HO
  iintro %v0 %v3 %v6 %v8 %W1 ⟨Hbar, HL, HR1, H2, HO⟩
  -- the neighbour's block along x
  iapply (wp_come msg K 0 c (i 0).val ht (sem_recv0 i) ((i 0).val + 1) (i 0).val (by omega) (by show _ + 0 ≤ _; omega) W1) $$ [HL HO]
  · isplitr; · iexact HI
    isplitr; · iexact Hlev
    isplitl [HL] <;> iassumption
  iintro ⟨HC, Hs, HO⟩
  -- the sum
  iapply (wp_load_block c arg1 fullShare X0) $$ H1
  iintro H1
  iapply (wp_load_slot c 0 (slotOf (i 0).val) (off3_eq i) _ (msg 0 (nb 0 c) (i 0).val)) $$ Hs
  iintro %v %hv Hs
  iapply (wp_load_block c (Memref.whole cc0_scratch1) fullShare Xr) $$ Hr
  iintro Hr
  iapply (wp_store_owns c (Memref.whole cc0_scratch1) Xr (k0_pay2 X0 v)) $$ Hr
  iintro Hr
  have hred : k0_pay2 X0 v = msg 1 c (i 0).val := by rw [pay2_eq, hv, hmsg]
  rw [hred]
  ihave HR0 := (ready_succ 0 c (i 0).val ht) $$ [HC Hs]
  · isplitl [HC] <;> iassumption
  -- its copy along y, half of the source kept for the load
  ihave Hr := (owns_halves (c : Thread nD τ) (Memref.whole cc0_scratch1) fullShare (msg 1 c (i 0).val)).1 $$ Hr
  icases Hr with ⟨HrL, HrR⟩
  iapply (wp_put msg K 1 c (i 0).val ht (src := Memref.whole cc0_scratch1) rfl (slot_eq 1 i _) (dev4_eq c _) (sem_send1 i) (sem_recv1 i)
    (due 0 c ((i 0).val + 1) + due 1 c ((i 0).val + 1)) hO _) $$ [HR1 HrL HO]
  · isplitr; · iexact HI
    isplitl [HR1]; · iexact HR1
    isplitl [HrL]; · iexact HrL
    iexact HO
  iintro ⟨HS, HO⟩
  iapply (wp_load_block c (Memref.whole cc0_scratch1) fullShare.right (msg 1 c (i 0).val)) $$ HrR
  iintro HrR
  iapply (wp_load_rows c arg3 f3) $$ H3
  iintro %w1 H3
  iapply (wp_store_rows c arg3 f3) $$ H3
  iintro H3
  -- the copy has left
  iapply (wp_left msg K 1 c (i 0).val ht (sem_send1 i) ((i 0).val + 1) ((i 0).val + 1) _) $$ [HS HO]
  · isplitr; · iexact HI
    isplitr; · iexact Hlev
    isplitl [HS] <;> iassumption
  iintro ⟨HL, HrL, HO⟩
  -- the neighbour's sum
  iapply (wp_come msg K 1 c (i 0).val ht (sem_recv1 i) ((i 0).val + 1) ((i 0).val + 1) (by omega) (by show _ + 1 ≤ _; omega) _) $$ [HL HO]
  · isplitr; · iexact HI
    isplitr; · iexact Hlev
    isplitl [HL] <;> iassumption
  iintro ⟨HC, Hs, HO⟩
  iapply (wp_load_slot c 1 (slotOf (i 0).val) (off3_eq i) _ (msg 1 (nb 1 c) (i 0).val)) $$ Hs
  iintro %u %hu Hs
  iapply (wp_load_rows c arg3 _) $$ H3
  iintro %w2 H3
  iapply (wp_store_rows c arg3 _) $$ H3
  iintro H3
  ihave HR1 := (ready_succ 1 c (i 0).val ht) $$ [HC Hs]
  · isplitl [HC] <;> iassumption
  rw [wp_ret]
  imodintro
  iapply Hk
  isplitl [Hbar HR0 HR1]
  · unfold Running
    isplitl [Hbar]; · iexact Hbar
    isplitl [HR0] <;> iassumption
  isplitl [H1]; · iexact H1
  isplitl [H2]; · iexact H2
  isplitl [HrL HrR]
  · iexists (msg 1 c (i 0).val)
    iapply (owns_halves (c : Thread nD τ) (Memref.whole cc0_scratch1) fullShare (msg 1 c (i 0).val)).2
    isplitl [HrL]; · iexact HrL
    iexact HrR
  isplitl [H3]
  · unfold owns
    iexists _
    isplitr [H3]
    rotate_left
    · iexact H3
    ipureintro
    rw [pay1_eq, hu, pay3_eq]
    exact read_out c arg3 f3 _ _
  iexact HO

end

end

end Cert.Exchange

end
-- ==== Proof.Region.lean ====
/-
  The communicating call as one region: what a device holds when it enters, between the steps, and when it leaves.

  The blocks sent are named here from what the host stretch left: on link 0 the step's block of the second operand (the neighbour's part),
  on link 1 the sum of the step's block of the first operand (the own part) and what came on link 0. At the last step every semaphore
  of the exchange has gone through its four rounds and is closed, so that the region leaves all of them, and the barrier, at zero.
-/
module

public import proofs.«01_k».proof.Proof.Point
public import Idealize.ShloMosaic.Lib.Rounds.Family
public import Idealize.ShloMosaic.Lib.Pipeline.FrameBody

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## The two slots of a receive buffer -/

/-- Slot `b` of any buffer of two slots. -/
abbrev slotIn (a : Memref sig .tc .vmem S2x1024x1024 .bf16) (b : Fin 2) : Memref sig .tc .vmem S1024x1024 .bf16 :=
  (a.slice (slotRect b) (fun _ => rfl)).squeeze S1024x1024 squeezes_S1x1024x1024_S1024x1024

theorem slotIn_set (a : Memref sig .tc .vmem S2x1024x1024 .bf16) (b : Fin 2) :
    (slotIn a b).view.set = (slotRect b).set.map a.view.emb :=
  (View.set_reshape _ _).trans (View.set_slice _ _)

theorem slots_cover : (slotRect 0).set ∪ (slotRect 1).set = (Finset.univ : Finset S2x1024x1024.Idx) := by
  ext i
  simp only [Finset.mem_union, Finset.mem_univ, iff_true, Rect.mem_set_unit]
  have h0 : (i 0 : ℕ) < 2 := (i 0).isLt
  have h1 : (i 1 : ℕ) < 1024 := (i 1).isLt
  have h2 : (i 2 : ℕ) < 1024 := (i 2).isLt
  by_cases h : (i 0 : ℕ) = 0
  · left; intro a
    fin_cases a
    · show 0 ≤ (i 0 : ℕ) ∧ (i 0 : ℕ) < 0 + 1; omega
    · show 0 ≤ (i 1 : ℕ) ∧ (i 1 : ℕ) < 0 + 1024; omega
    · show 0 ≤ (i 2 : ℕ) ∧ (i 2 : ℕ) < 0 + 1024; omega
  · right; intro a
    fin_cases a
    · show 1 ≤ (i 0 : ℕ) ∧ (i 0 : ℕ) < 1 + 1; omega
    · show 0 ≤ (i 1 : ℕ) ∧ (i 1 : ℕ) < 0 + 1024; omega
    · show 0 ≤ (i 2 : ℕ) ∧ (i 2 : ℕ) < 0 + 1024; omega

theorem slots_disjoint : Disjoint (slotRect 0).set (slotRect 1).set :=
  Rect.unit_disjoint 0 (by decide)

theorem slotIn_cover (a : Memref sig .tc .vmem S2x1024x1024 .bf16) :
    (slotIn a 0).view.set ∪ (slotIn a 1).view.set = a.view.set := by
  rw [slotIn_set, slotIn_set, ← Finset.map_union, slots_cover]; rfl

theorem slotIn_disjoint (a : Memref sig .tc .vmem S2x1024x1024 .bf16) :
    Disjoint (slotIn a 0).view.set (slotIn a 1).view.set := by
  rw [slotIn_set, slotIn_set]; exact (Finset.disjoint_map _).mpr slots_disjoint

/-- A receive buffer is its two slots, -/
theorem slots_split (c : Dev nD) (l : Fin 2) (f : Buf (Elt F) ((recvM l).view.loc (c : Thread nD τ))) :
    ((recvM l).view.loc (c : Thread nD τ) ↦[(recvM l).view.set]{fullShare} f)
      ⊢ (iprop(anySlot l (slotOf 0) c ∗ anySlot l (slotOf 1) c) : sProp 𝕄) := by
  have h := (pointsTo_union (Ix := ℕ) (Val := Elt F) (Name := ℕ) (U := UU) (Lvl := ℕ) (ℓ := (recvM l).view.loc (c : Thread nD τ)) (q := fullShare) (f := f)
    (slotIn_disjoint (recvM l))).1
  rw [slotIn_cover (recvM l)] at h
  refine h.trans ?_
  unfold anySlot
  iintro ⟨H0, H1⟩
  isplitl [H0]
  · iexists f; iexact H0
  iexists f; iexact H1

/-- and back. -/
theorem slots_join (c : Dev nD) (l : Fin 2) :
    (iprop(anySlot l (slotOf 0) c ∗ anySlot l (slotOf 1) c) : sProp 𝕄)
      ⊢ iprop(∃ f, (recvM l).view.loc (c : Thread nD τ) ↦[(recvM l).view.set]{fullShare} f) := by
  unfold anySlot
  rw [← slotIn_cover (recvM l)]
  iintro ⟨⟨%f0, H0⟩, ⟨%f1, H1⟩⟩
  iexists _
  iapply (pointsTo_join (Ix := ℕ) (Val := Elt F) (Name := ℕ) (U := UU) (Lvl := ℕ) (ℓ := (recvM l).view.loc (c : Thread nD τ)) (q := fullShare) (f := f0) (g := f1)
    (slotIn_disjoint (recvM l)))
  isplitl [H0]; · iexact H0
  iexact H1

/-! ## The semaphores of the exchange, link by link -/

/-- One resource per semaphore of a link. -/
def perLink (Φ : GSem nD τ sig → sProp 𝕄) (l : Fin 2) (c : Dev nD) : sProp 𝕄 :=
  iprop((Φ (sendCell l (slotOf 0) c) ∗ Φ (sendCell l (slotOf 1) c)) ∗ (Φ (recvCell l (slotOf 0) c) ∗ Φ (recvCell l (slotOf 1) c)))

theorem perLink_eq (Φ : GSem nD τ sig → sProp 𝕄) (c : Dev nD) :
    (bigSep Finset.univ fun k : Fin 8 => Φ ((c : Thread nD τ), osem k)) = iprop(perLink Φ 0 c ∗ perLink Φ 1 c) := by
  have h : (bigSep Finset.univ fun k : Fin 8 => Φ ((c : Thread nD τ), osem k))
      ⊣⊢ (iprop(perLink Φ 0 c ∗ perLink Φ 1 c) : sProp 𝕄) := by
    rw [bigSep_univ_eq_bigSepL [0, 1, 2, 3, 4, 5, 6, 7] (by decide) (by decide)]
    show iprop(Φ (sendCell 0 (slotOf 0) c) ∗ Φ (sendCell 0 (slotOf 1) c) ∗ Φ (recvCell 0 (slotOf 0) c) ∗ Φ (recvCell 0 (slotOf 1) c)
      ∗ Φ (sendCell 1 (slotOf 0) c) ∗ Φ (sendCell 1 (slotOf 1) c) ∗ Φ (recvCell 1 (slotOf 0) c) ∗ Φ (recvCell 1 (slotOf 1) c)) ⊣⊢ _
    unfold perLink
    constructor
    · iintro ⟨H0, H1, H2, H3, H4, H5, H6, H7⟩
      isplitl [H0 H1 H2 H3]
      · isplitl [H0 H1]; · isplitl [H0] <;> iassumption
        isplitl [H2] <;> iassumption
      isplitl [H4 H5]; · isplitl [H4] <;> iassumption
      isplitl [H6] <;> iassumption
    · iintro ⟨⟨⟨H0, H1⟩, H2, H3⟩, ⟨H4, H5⟩, H6, H7⟩
      isplitl [H0]; · iexact H0
      isplitl [H1]; · iexact H1
      isplitl [H2]; · iexact H2
      isplitl [H3]; · iexact H3
      isplitl [H4]; · iexact H4
      isplitl [H5]; · iexact H5
      isplitl [H6] <;> iassumption
  exact BI.equiv_iff.mp ⟨h.1, h.2⟩

/-! ## From the launch to the first step, and past the last -/

/-- What a device has of the barrier before step 0. -/
def Bar (c : Dev nD) : sProp 𝕄 :=
  iprop(atPos ER (barCell c) 0 ∅ 0 ∗ (reached ER (barCell (nb 0 c)) 0 ∗ reached ER (barCell (nb 1 c)) 0)
    ∗ (dutyTok ER (barCell (nb 0 c)) 0 0 ∗ dutyTok ER (barCell (nb 1 c)) 0 1) ∗ cred (tallyAt (barCell c) 0 2))

/-- And of a link: the tokens of its copies and the credits of the blocks to come. -/
abbrev Lend (l : Fin 2) (c : Dev nD) : sProp 𝕄 := iprop(toks l c 0 ∗ creds l c 0)

/-- Every semaphore of the exchange is at zero, and all four slots are back. -/
def Done (c : Dev nD) : sProp 𝕄 :=
  iprop(semVal (barCell c) 0 ∗ (bigSep Finset.univ fun k : Fin 8 => semVal ((c : Thread nD τ), osem k) 0)
    ∗ (anySlot 0 (slotOf 0) c ∗ anySlot 0 (slotOf 1) c) ∗ (anySlot 1 (slotOf 0) c ∗ anySlot 1 (slotOf 1) c))

/-- What a device holds of the exchange before step `t`, and past the last step. -/
def State (c : Dev nD) (t : ℕ) : sProp 𝕄 := if t < 8 then Enter c t else Done c

theorem state_of_lt (c : Dev nD) {t : ℕ} (h : t < 8) : (State c t : sProp 𝕄) = Enter c t := if_pos h
theorem state_done (c : Dev nD) : (State c 8 : sProp 𝕄) = Done c := if_neg (by decide)

/-- With the semaphores opened and the slots at hand step 0 may start. -/
theorem start_intro (c : Dev nD) :
    iprop(Bar c ∗ (bigSep Finset.univ fun k : Fin 8 => at_ ((c : Thread nD τ), osem k) 0) ∗ (Lend 0 c ∗ Lend 1 c)
        ∗ (anySlot 0 (slotOf 0) c ∗ anySlot 0 (slotOf 1) c) ∗ (anySlot 1 (slotOf 0) c ∗ anySlot 1 (slotOf 1) c))
      ⊢ (State c 0 : sProp 𝕄) := by
  rw [state_of_lt c (by decide), show (Enter c 0 : sProp 𝕄) = Start c from if_pos rfl, perLink_eq (fun g => at_ g 0) c]
  unfold Bar perLink Start Fresh
  iintro ⟨⟨Ha, Hr, Ht, Hc⟩, ⟨⟨HS0, HR0⟩, HS1, HR1⟩, ⟨⟨HT0, HC0⟩, HT1, HC1⟩, H0, H1⟩
  isplitl [Ha]; · iexact Ha
  isplitl [Hr]; · iexact Hr
  isplitl [Ht]; · iexact Ht
  isplitl [Hc]; · iexact Hc
  isplitl [HS0 HR0 HT0 HC0 H0]
  · isplitl [HS0]; · iexact HS0
    isplitl [HR0]; · iexact HR0
    isplitl [HT0]; · iexact HT0
    isplitl [HC0]; · iexact HC0
    iexact H0
  isplitl [HS1]; · iexact HS1
  isplitl [HR1]; · iexact HR1
  isplitl [HT1]; · iexact HT1
  isplitl [HC1]; · iexact HC1
  iexact H1

section

variable (msg : Fin 2 → Dev nD → ℕ → S1024x1024.Idx → Elt F .bf16) (K : GSem nD τ sig → ℕ)

theorem ex_mem (c : Dev nD) (k : Fin 8) : ((c : Thread nD τ), osem k) ∈ (barCells ∪ exCells : Finset (GSem nD τ sig)) :=
  Finset.mem_union_right _ (Finset.mem_map_of_mem exEmb (Finset.mem_univ (c, k)))

/-- The call's own counters, at zero, become the exchange's. -/
theorem open_own (c : Dev nD) :
    iprop(invs msg K ∗ (bigSep Finset.univ fun k : Fin 8 => openTok ER ((c : Thread nD τ), osem k))
        ∗ (bigSep Finset.univ fun k : Fin 8 => semVal ((c : Thread nD τ), osem k) 0))
      ⊢ (|={Set.univ}=> bigSep Finset.univ fun k : Fin 8 => at_ ((c : Thread nD τ), osem k) 0 : sProp 𝕄) := by
  have hI : iprop(invs msg K ∗ (bigSep Finset.univ fun k : Fin 8 => openTok ER ((c : Thread nD τ), osem k)))
      ⊢ (bigSep Finset.univ fun k : Fin 8 => iprop(cellInv ER (exRd msg) (K ((c : Thread nD τ), osem k)) ((c : Thread nD τ), osem k)
          ∗ openTok ER ((c : Thread nD τ), osem k)) : sProp 𝕄) :=
    bigSep_with_persistent (fun k _ => sep_mono_left (inv_at msg K (ex_mem c k)))
  iintro ⟨HI, HT, HV⟩
  iapply (Rounds.cells_open ER (exRd msg) Finset.univ (fun k : Fin 8 => ((c : Thread nD τ), osem k)) (fun k => K ((c : Thread nD τ), osem k))
    (fun _ _ => Set.mem_univ _))
  isplitl [HI HT]
  · iapply hI
    isplitl [HI] <;> iassumption
  iexact HV

/-- Past the last step every counter of the exchange is closed, at zero. -/
theorem close_all (c : Dev nD) : iprop(invs msg K ∗ Running c 8) ⊢ (|={Set.univ}=> Done c : sProp 𝕄) := by
  have hI : iprop(invs msg K ∗ (bigSep Finset.univ fun k : Fin 8 => at_ ((c : Thread nD τ), osem k) 4))
      ⊢ (bigSep Finset.univ fun k : Fin 8 => iprop(cellInv ER (exRd msg) (K ((c : Thread nD τ), osem k)) ((c : Thread nD τ), osem k)
          ∗ atPos ER ((c : Thread nD τ), osem k) 4 ∅ 0) : sProp 𝕄) :=
    bigSep_with_persistent (fun k _ => by
      unfold at_
      iintro ⟨HI, Ha, -⟩
      isplitl [HI]; · iapply (inv_at msg K (ex_mem c k)); iexact HI
      iexact Ha)
  have hS : iprop(Ready 0 c 8 ∗ Ready 1 c 8)
      ⊢ (iprop((bigSep Finset.univ fun k : Fin 8 => at_ ((c : Thread nD τ), osem k) 4)
        ∗ (anySlot 0 (slotOf 0) c ∗ anySlot 0 (slotOf 1) c) ∗ (anySlot 1 (slotOf 0) c ∗ anySlot 1 (slotOf 1) c)) : sProp 𝕄) := by
    rw [perLink_eq (fun g => at_ g 4) c]
    unfold Ready perLink
    rw [show (slots 0 c 8 : sProp 𝕄) = iprop(anySlot 0 (slotOf 0) c ∗ anySlot 0 (slotOf 1) c) from if_neg (by decide),
      show (slots 1 c 8 : sProp 𝕄) = iprop(anySlot 1 (slotOf 0) c ∗ anySlot 1 (slotOf 1) c) from if_neg (by decide)]
    iintro ⟨⟨HS0, HR0, -, -, H0⟩, HS1, HR1, -, -, H1⟩
    isplitl [HS0 HR0 HS1 HR1]
    · isplitl [HS0 HR0]
      · isplitl [HS0]; · iexact HS0
        iexact HR0
      isplitl [HS1]; · iexact HS1
      iexact HR1
    isplitl [H0] <;> iassumption
  unfold Running Done
  iintro ⟨#HI, Hb, HR⟩
  ihave HR := hS $$ HR
  icases HR with ⟨HC, Hsl⟩
  imod (Rounds.cell_close ER (exRd msg) (g := barCell c) (κ := K (barCell c)) (Es := Set.univ) (R := 1) (Set.mem_univ _) (fun h => h)
    (fun r hr => duties_bar_later c hr)) $$ [Hb] with Hb
  · isplitr; · iapply (inv_at msg K (bar_mem c)); iexact HI
    iexact Hb
  ihave HC := hI $$ [HC]
  · isplitr; · iexact HI
    iexact HC
  imod (Rounds.cells_close ER (exRd msg) Finset.univ (fun k : Fin 8 => ((c : Thread nD τ), osem k))
    (fun k => K ((c : Thread nD τ), osem k)) (Es := Set.univ) (fun _ _ => Set.mem_univ _) (fun _ _ h => h) (fun _ => 4) (fun k _ r hr => duties_dma_later c _ hr)) $$ HC with HC
  imodintro
  isplitl [Hb]; · iexact Hb
  isplitl [HC]; · iexact HC
  iexact Hsl

/-- After a step the next may start; after the last all is done. -/
theorem state_succ (c : Dev nD) {t : ℕ} (h : t < 8) : iprop(invs msg K ∗ Running c (t + 1)) ⊢ (|={Set.univ}=> State c (t + 1) : sProp 𝕄) := by
  by_cases h8 : t + 1 < 8
  · rw [state_of_lt c h8, show (Enter c (t + 1) : sProp 𝕄) = Running c (t + 1) from if_neg (Nat.succ_ne_zero t)]
    iintro ⟨-, H⟩
    imodintro
    iexact H
  · obtain rfl : t = 7 := by omega
    rw [state_done]
    exact close_all msg K c

end

/-! ## The proof data of the call -/

theorem coords_val : ∀ t : Fin grid0.N, (grid0.coords t 0).val = t.val := by decide

/-- Step `t` of the grid. -/
def pt (t : ℕ) : Fin cfg0.N := ⟨t % 8, by rw [show cfg0.N = 8 from N_0]; exact Nat.mod_lt _ (by decide)⟩

theorem pt_lt (t : Fin cfg0.N) : t.val < 8 := lt_of_lt_of_eq t.isLt N_0
theorem pt_val (t : Fin cfg0.N) : pt t.val = t := Fin.ext (Nat.mod_eq_of_lt (pt_lt t))

section

variable (m : (ℓ : Loc nD τ sig) → Buf (Elt F) ℓ)

/-- The step's block of the own part and of the neighbour's part, as the host stretch left them. -/
def mine (c : Dev nD) (t : Fin cfg0.N) : S1024x1024.Idx → Elt F .bf16 := ((cfg0.win 0).blk t).view.read (Elt F) (V1 m c main_v26)
def other (c : Dev nD) (t : Fin cfg0.N) : S1024x1024.Idx → Elt F .bf16 := ((cfg0.win 1).blk t).view.read (Elt F) (V1 m c main_v29)

/-- What a device sends at a step. -/
def msg : Fin 2 → Dev nD → ℕ → S1024x1024.Idx → Elt F .bf16
  | 0, c, t => other m c (pt t)
  | 1, c, t => sumBlk (mine m c (pt t)) (other m (nb 0 c) (pt t))

/-- What a device writes into its result at a step. -/
def outAt (c : Dev nD) (t : Fin cfg0.N) : S2048x1024.Idx → Elt F .f32 := outBlk c (msg m 1 c t.val) (msg m 1 (nb 1 c) t.val)

def dats (_ : Fin 1) (c : Dev nD) : Dat τ (Elt F) ℕ ℕ UU ℕ cfg0 c where
  A w := V1 m c (Proc.devRef .tc (Pipeline.arrRef spec0 w))
  after w t := match w with
    | ⟨0, _⟩ => mine m c t
    | ⟨1, _⟩ => other m c t
    | ⟨2, _⟩ => outAt m c t
  Φ t := iprop((∃ K, invs (msg m) K) ∗ levAts L lv ∗ State c t.val ∗ (∃ X, owns (c : Thread nD τ) (Memref.whole cc0_scratch1) fullShare X) ∗ ∃ r, prngReg c r)
  q _ := fullShare
  owed t := owed c t.val

theorem Phi_eq (c : Dev nD) (t : Fin (cfg0.N + 1)) : (dats m 0 c).Φ t
    = iprop((∃ K, invs (msg m) K) ∗ levAts L lv ∗ State c t.val ∗ (∃ X, owns (c : Thread nD τ) (Memref.whole cc0_scratch1) fullShare X) ∗ ∃ r, prngReg c r) := rfl

theorem before_mine (c : Dev nD) (t : Fin cfg0.N) (d) : (dats m 0 c).before 0 t d = mine m c t := (dats m 0 c).before_fetched 0 t (fetch0_0 t) d
theorem before_other (c : Dev nD) (t : Fin cfg0.N) (d) : (dats m 0 c).before 1 t d = other m c t := (dats m 0 c).before_fetched 1 t (fetch0_1 t) d

theorem owesAt_intro (c : Dev nD) (t : Fin (cfg0.N + 1)) (W : Waits sig ℕ) :
    (owes (c : Thread nD τ) (owed c t.val) W : sProp 𝕄) ⊢ (dats m 0 c).owesAt 0 t := by
  unfold Dat.owesAt Pipeline.owesWithin Dat.bound
  iintro HO
  iexists W
  isplitr; · ipureintro; exact fun _ _ => Or.inl trivial
  iexact HO
theorem owesAt_elim (c : Dev nD) (t : Fin (cfg0.N + 1)) :
    ((dats m 0 c).owesAt 0 t : sProp 𝕄) ⊢ iprop(∃ W, owes (c : Thread nD τ) (owed c t.val) W) := by
  unfold Dat.owesAt Pipeline.owesWithin
  iintro ⟨%W, -, HO⟩
  iexists W
  iexact HO

theorem owed_succ (c : Dev nD) (t : ℕ) : owed c (t + 1) = due 0 c (t + 1) + due 1 c (t + 1) := by
  unfold owed; rw [if_neg (Nat.succ_ne_zero t), add_zero]
theorem owed_last (c : Dev nD) : owed c 8 = 0 := by rw [owed_succ c 7, due_last, due_last, add_zero]

theorem owns_any (c : Dev nD) {sh : Shape} {e : EltTy} (a : Memref sig .tc .vmem sh e) (X : sh.Idx → Elt F e) :
    (owns (c : Thread nD τ) a fullShare X : sProp 𝕄) ⊢ iprop(∃ f, a.view.loc (c : Thread nD τ) ↦[a.view.set]{fullShare} f) := by
  unfold owns
  iintro ⟨%f, -, H⟩
  iexists f
  iexact H

theorem msg_zero (c : Dev nD) (t : Fin cfg0.N) : msg m 0 c t.val = other m c t := by
  show other m c (pt t.val) = _; rw [pt_val]
theorem msg_one (c : Dev nD) (t : Fin cfg0.N) : msg m 1 c t.val = sumBlk (mine m c t) (msg m 0 (nb 0 c) t.val) := by
  show sumBlk (mine m c (pt t.val)) (msg m 0 (nb 0 c) t.val) = _; rw [pt_val]

set_option maxHeartbeats 1600000 in
/-- The body at a point, on what the pipeline hands it. -/
theorem body_at (c : Dev nD) (t : Fin cfg0.N) (X2 : S2048x1024.Idx → Elt F .f32) :
    iprop((dats m 0 c).Φ t.castSucc ∗ (dats m 0 c).owesAt 0 t.castSucc
        ∗ owns (c : Thread nD τ) (st0_0 t) fullShare (mine m c t) ∗ owns (c : Thread nD τ) (st0_1 t) fullShare (other m c t)
        ∗ owns (c : Thread nD τ) (st0_2 t) fullShare X2)
      ⊢ wp frame (wpE (defs₀ (F := F)) 𝒱₀ (c : Thread nD τ) none) Set.univ (bodyAt0 t) fun _ =>
          iprop((dats m 0 c).Φ t.succ ∗ (dats m 0 c).owesAt 0 t.succ
            ∗ owns (c : Thread nD τ) (st0_0 t) fullShare (mine m c t) ∗ owns (c : Thread nD τ) (st0_1 t) fullShare (other m c t)
            ∗ owns (c : Thread nD τ) (st0_2 t) fullShare (outAt m c t)) := by
  have hi : (grid0.coords t 0).val = t.val := coords_val t
  have hsrc : st0_1 t = srcM 0 (grid0.coords t 0).val := by
    rw [hi]
    show win0_1.stage (cfg0.slots t 1) = win0_1.stage (cfg0.slots (pt t.val) 1)
    rw [pt_val]
  rw [Phi_eq, Phi_eq, Fin.val_succ, show (t.castSucc : Fin (cfg0.N + 1)).val = t.val from rfl, state_of_lt c (pt_lt t)]
  iintro ⟨⟨⟨%K, #HI⟩, #Hlev, HE, Hr, Hp⟩, HO, H0, H1, H2⟩
  ihave HO := (owesAt_elim m c t.castSucc) $$ HO
  icases HO with ⟨%W, HO⟩
  ihave H2 := (owns_any c (st0_2 t) X2) $$ H2
  icases H2 with ⟨%f, H2⟩
  have B := fun Q => body_run (msg m) K (c := c) (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) hsrc (mine m c t)
    (by rw [hi]; exact msg_one m c t) f W (Q := Q)
  simp only [hi, msg_zero] at B
  iapply (wp_fupd _ _ _ _ _)
  iapply (B _)
  isplitr; · iexact HI
  isplitr; · iexact Hlev
  isplitl [HE]; · iexact HE
  isplitl [H0]; · iexact H0
  isplitl [H1]; · iexact H1
  isplitl [Hr]; · iexact Hr
  isplitl [H2]; · iexact H2
  isplitl [HO]; · iexact HO
  iintro %W' ⟨HR, H0, H1, Hr, H2, HO⟩
  imod (state_succ (msg m) K c (pt_lt t)) $$ [HR] with HS
  · isplitr; · iexact HI
    iexact HR
  imodintro
  isplitl [HS Hr Hp]
  · isplitr; · iexists K; iexact HI
    isplitr; · iexact Hlev
    isplitl [HS]; · iexact HS
    isplitl [Hr]; · iexact Hr
    iexact Hp
  isplitl [HO]
  · iapply (owesAt_intro m c t.succ W')
    rw [Fin.val_succ, owed_succ]
    iexact HO
  isplitl [H0]; · iexact H0
  isplitl [H1]; · iexact H1
  iexact H2

set_option maxHeartbeats 800000 in
theorem body_obligation (c : Dev nD) : BodyObligation (dats m 0 c) (defs₀ (F := F)) 𝒱₀ 0 Set.univ := fun t => by
  rw [bigSep_W0, bigSep_W0]
  iintro ⟨HP, HO, ⟨%d0, H0⟩, ⟨%d1, H1⟩, ⟨%d2, H2⟩⟩
  ihave H0 := (Entails.of_eq (congrArg (owns (c : Thread nD τ) (st0_0 t) fullShare) (before_mine m c t d0))) $$ H0
  ihave H1 := (Entails.of_eq (congrArg (owns (c : Thread nD τ) (st0_1 t) fullShare) (before_other m c t d1))) $$ H1
  iapply (body_at m c t ((dats m 0 c).before 2 t d2))
  isplitl [HP]; · iexact HP
  isplitl [HO]; · iexact HO
  isplitl [H0]; · iexact H0
  isplitl [H1]; · iexact H1
  iexact H2

/-! ## The region -/

/-- What the call leaves in the result. -/
def left (c : Dev nD) : Buf (Elt F) ((c : Thread nD τ).loc main_v30) := (dats m 0 c).arrAt 2 cfg0.N

/-- The buffers after the call: the result at what it left there, every other as before. -/
def Vend (c : Dev nD) : Valuation τ sig (Elt F) := Function.update (V1 m c) (Proc.devRef .tc main_v30) (left m c)

theorem Vend_result (c : Dev nD) : Vend m c (Proc.devRef .tc main_v30) = left m c := Function.update_self _ _ _
theorem Vend_of_ne (c : Dev nD) {b : DevRef τ sig} (h : b ≠ Proc.devRef .tc main_v30) : Vend m c b = V1 m c b := Function.update_of_ne h _ _
theorem Vend_of (c : Dev nD) (r : Ref sig .tc) (h : r ≠ main_v30) : Vend m c (Proc.devRef .tc r) = V1 m c (Proc.devRef .tc r) :=
  Vend_of_ne m c (StableHlo.devRef_ne_of_ne h)

/-- The buffers of the call's operands and result, and the other unscoped ones. -/
abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 (by decide)
theorem result_mem : (Proc.devRef .tc main_v30 : DevRef τ sig) ∈ arrs :=
  Finset.mem_map_of_mem _ (Finset.mem_image.mpr ⟨2, Finset.mem_univ _, rfl⟩)

/-- What the launch keeps for the call. -/
def Tk (c : Dev nD) : sProp 𝕄 :=
  iprop((∃ K, invs (msg m) K) ∗ Bar c ∗ (bigSep Finset.univ fun k : Fin 8 => openTok ER ((c : Thread nD τ), osem k)) ∗ Lend 0 c ∗ Lend 1 c)
def Xk (c : Dev nD) : sProp 𝕄 :=
  iprop((∃ K, invs (msg m) K) ∗ levAts L lv ∗ Bar c ∗ (bigSep Finset.univ fun k : Fin 8 => at_ ((c : Thread nD τ), osem k) 0) ∗ Lend 0 c ∗ Lend 1 c)

theorem open_call (c : Dev nD) : iprop(Tk m c ∗ Pipeline.ownSems0 osem c ∗ levAts L lv) ⊢ (|={Set.univ}=> Xk m c : sProp 𝕄) := by
  rw [show (Pipeline.ownSems0 osem c : sProp 𝕄) = (bigSep Finset.univ fun k : Fin 8 => semVal ((c : Thread nD τ), osem k) 0) from rfl]
  unfold Tk Xk
  iintro ⟨⟨⟨%K, #HI⟩, HB, HO, HL⟩, HS, #Hlev⟩
  imod (open_own (msg m) K c) $$ [HO HS] with HA
  · isplitr; · iexact HI
    isplitl [HO] <;> iassumption
  imodintro
  isplitr; · iexists K; iexact HI
  isplitr; · iexact Hlev
  isplitl [HB]; · iexact HB
  isplitl [HA]; · iexact HA
  iexact HL

theorem scratch_any (c : Dev nD) : (iprop(∃ f : Buf (Elt F) ((c : Thread nD τ).loc cc0_scratch1), ((c : Thread nD τ).loc cc0_scratch1) ↦{fullShare} f) : sProp 𝕄)
    ⊢ iprop(∃ X, owns (c : Thread nD τ) (Memref.whole cc0_scratch1) fullShare X) := by
  iintro ⟨%f, H⟩
  iexists f
  iapply (Entails.of_eq (owns_whole (c : Thread nD τ) cc0_scratch1 fullShare f).symm)
  iexact H
theorem scratch_back (c : Dev nD) : (iprop(∃ X, owns (c : Thread nD τ) (Memref.whole cc0_scratch1) fullShare X) : sProp 𝕄)
    ⊢ iprop(∃ f : Buf (Elt F) ((c : Thread nD τ).loc cc0_scratch1), ((c : Thread nD τ).loc cc0_scratch1) ↦{fullShare} f) := by
  iintro ⟨%f, H⟩
  iexists f
  iapply (Entails.of_eq (owns_whole (c : Thread nD τ) cc0_scratch1 fullShare f))
  iexact H

theorem recv_set (l : Fin 2) : (recvM l).view.set = Finset.univ := by
  match l with
  | 0 => exact View.set_whole _
  | 1 => exact View.set_whole _

theorem enter_call (c : Dev nD) : iprop(Pipeline.scopedRest spec0 c ∗ (∃ r, prngReg c r) ∗ Xk m c) ⊢ ((dats m 0 c).Φ 0 : sProp 𝕄) := by
  rw [Phi_eq, scopedRest0_eq]
  show _ ⊢ iprop((∃ K, invs (msg m) K) ∗ levAts L lv ∗ State c 0 ∗ (∃ X, owns (c : Thread nD τ) (Memref.whole cc0_scratch1) fullShare X) ∗ ∃ r, prngReg c r)
  have h0 := fun f => slots_split (F := F) c 0 f
  have h1 := fun f => slots_split (F := F) c 1 f
  rw [recv_set] at h0 h1
  unfold Xk
  iintro ⟨⟨⟨%f0, H0⟩, Hr, ⟨%f1, H1⟩⟩, Hp, HI, Hlev, HB, HA, HL⟩
  isplitl [HI]; · iexact HI
  isplitl [Hlev]; · iexact Hlev
  isplitl [HB HA HL H0 H1]
  · iapply (start_intro c)
    isplitl [HB]; · iexact HB
    isplitl [HA]; · iexact HA
    isplitl [HL]; · iexact HL
    isplitl [H0]
    · iapply (h0 f0); iexact H0
    iapply (h1 f1); iexact H1
  isplitl [Hr]
  · iapply (scratch_any c); iexact Hr
  iexact Hp

theorem exit_call (c : Dev nD) : ((dats m 0 c).Φ (Fin.last cfg0.N) : sProp 𝕄)
    ⊢ iprop(Pipeline.scopedRest spec0 c ∗ (∃ r, prngReg c r) ∗ Pipeline.ownSems0 osem c ∗ semVal (barCell c) 0) := by
  rw [Phi_eq, scopedRest0_eq, Fin.val_last, show cfg0.N = 8 from N_0, state_done,
    show (Pipeline.ownSems0 osem c : sProp 𝕄) = (bigSep Finset.univ fun k : Fin 8 => semVal ((c : Thread nD τ), osem k) 0) from rfl]
  have h0 := slots_join (F := F) c 0
  have h1 := slots_join (F := F) c 1
  rw [recv_set] at h0 h1
  unfold Done
  iintro ⟨-, -, ⟨Hb, HS, H0, H1⟩, Hr, Hp⟩
  isplitl [H0 H1 Hr]
  · isplitl [H0]
    · iapply h0; iexact H0
    isplitl [Hr]
    · iapply (scratch_back c); iexact Hr
    iapply h1; iexact H1
  isplitl [Hp]; · iexact Hp
  isplitl [HS]; · iexact HS
  iexact Hb

/-- Everything owed lies above the staging waits. -/
theorem owed_pos {c : Dev nD} {t : ℕ} {g : GSem nD τ sig} {i : ℕ} (h : 0 < owed c t g i) : i ∈ L g ∧ 0 < lv g i := by
  unfold owed at h
  rw [Pi.add_apply, Finsupp.add_apply] at h
  rcases Nat.add_pos_iff_pos_or_pos.mp h with h | h
  · obtain ⟨h1, h2⟩ := dues_pos h
    exact ⟨h1, by omega⟩
  · split at h
    · unfold dueBar at h
      have hb : ∀ l, 0 < (tallyAt (barCell (nb l c)) 0 1 : CellTallies nD τ sig ℕ) g i → i ∈ L g ∧ 0 < lv g i := fun l hl => by
        rw [tallyAt_apply] at hl
        split at hl
        · next hg => obtain ⟨rfl, rfl⟩ := hg; exact ⟨by rw [L, if_pos rfl]; decide, Nat.one_pos⟩
        · exact absurd hl (Nat.lt_irrefl 0)
      rw [Pi.add_apply, Finsupp.add_apply] at h
      rcases Nat.add_pos_iff_pos_or_pos.mp h with h | h
      · exact hb 0 h
      · exact hb 1 h
    · exact absurd h (Nat.lt_irrefl 0)

theorem share_eq (c : Dev nD) (w : Fin cfg0.W) : (dats m 0 c).share w = fullShare := by unfold Dat.share; split <;> rfl

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem staging_not_recv : ∀ (w : Fin cfg0.W) (s : Fin (cfg0.win w).nbuf), ¬ isRecv ((cfg0.win w).sem s) := by decide

set_option backward.isDefEq.respectTransparency.types false in
/-- The call's record. -/
def region : Pipeline.RegionSeg (pcfgs (F := F)) adm (dats m) 0 defs₀ 𝒱₀ L lv 0 :=
  Pipeline.RegionSeg.ofTalk (pcfgs (F := F)) adm (dats m) 0 defs₀ 𝒱₀ L lv 0 osem (by decide : Pipeline.OwnSemFacts spec0 osem)
    ∅ others (Finset.empty_subset _) kitP rfl (fun c => (body_obligation m c).loose)
    (fun _ => 0) (fun c => owed c 0) (fun c => (zero_add _).symm)
    (fun c => by show owed c (Fin.last cfg0.N).val = 0; rw [Fin.val_last, show cfg0.N = 8 from N_0, owed_last])
    (fun _ => rfl) (share_eq m)
    (V1 m) (Vend m)
    (fun c b hb => Vend_of_ne m c (fun e => (Finset.mem_sdiff.mp (Finset.mem_sdiff.mp hb).1).2 (e ▸ result_mem)))
    (Tk m) (fun c => semVal (barCell c) 0) (Xk m) (fun c => semVal (barCell c) 0) (open_call m)
    (fun c => by
      iintro ⟨Hs, Hp, -, HX⟩
      iapply (enter_call m c)
      isplitl [Hs]; · iexact Hs
      isplitl [Hp] <;> iassumption)
    (fun c => by
      refine (exit_call m c).trans ?_
      iintro ⟨Hs, Hp, Ho, HX⟩
      isplitl [Hs]; · iexact Hs
      isplitl [Hp]; · iexact Hp
      isplitr; · unfold StableHlo.held; rw [bigSep_empty]; iempintro
      isplitl [Ho] <;> iassumption)
    (fun c => by iintro H; imodintro; iexact H)
    (fun _ => 0)
    ⟨fun c w s => by rw [L, if_pos rfl]; decide,
      fun c w s => (if_neg (staging_not_recv w s)).le,
      fun c t g i h => owed_pos h⟩
    (fun _ => iprop(emp))
    (fun _ _ => rfl)
    (fun c w => by
      match w with
      | 0 => exact ((dats m 0 c).arrAt_in 0 rfl _).trans (Vend_of m c main_v26 (by decide)).symm
      | 1 => exact ((dats m 0 c).arrAt_in 1 rfl _).trans (Vend_of m c main_v29 (by decide)).symm
      | 2 => exact (Vend_result m c).symm)

end

end Cert.Exchange

end
-- ==== Proof.Launch.lean ====
/-
  The launch of the exchange: the rights and credits it starts from, and how they are dealt out.

  Every duty of the barrier and of the copies gets one token. The token of a copy's departure goes to the device that copies, the token
  of its arrival to the neighbour it comes from, a barrier's two tokens to the two neighbours. What all devices together owe at the start
  is, cell by cell, what the waits of the cell's owner consume.
-/
module

public import proofs.«01_k».proof.Proof.Region
public import Idealize.ShloMosaic.Lib.Ring
public import Idealize.ShloMosaic.Lib.Pipeline.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem disjoint_cells : Disjoint (barCells : Finset (GSem nD τ sig)) exCells := by
  refine Finset.disjoint_left.mpr fun g h₁ h₂ => ?_
  obtain ⟨c, -, rfl⟩ := Finset.mem_map.mp h₁
  obtain ⟨ck, -, h⟩ := Finset.mem_map.mp h₂
  exact osem_ne_bar ck.2 (congrArg Prod.snd h)

/-! ## The tokens -/

/-- Of a link, a step and an end of the copy (0 the departure, 1 the arrival): the semaphore and the round. -/
def tokIx (x : Fin 2 × Fin 8 × Fin 2) : Fin 8 × ℕ :=
  (if x.2.2 = 0 then sendIx x.1 (slotOf x.2.1.val) else recvIx x.1 (slotOf x.2.1.val), x.2.1.val / 2)

theorem tokIx_inj : Function.Injective tokIx := by decide

def barTokEmb : Dev nD × Fin 2 ↪ GSem nD τ sig × ℕ × Fin 2 :=
  ⟨fun x => (barCell x.1, 0, x.2), fun _ _ h =>
    Prod.ext (congrArg (fun t : GSem nD τ sig × ℕ × Fin 2 => t.1.1.1) h) (congrArg (fun t : GSem nD τ sig × ℕ × Fin 2 => t.2.2) h)⟩

def exTokEmb : Dev nD × (Fin 2 × Fin 8 × Fin 2) ↪ GSem nD τ sig × ℕ × Fin 2 :=
  ⟨fun x => (exEmb (x.1, (tokIx x.2).1), (tokIx x.2).2, 0), fun x y h => by
    have h1 := exEmb.injective (congrArg Prod.fst h)
    have h2 : (tokIx x.2).2 = (tokIx y.2).2 := congrArg (fun t : GSem nD τ sig × ℕ × Fin 2 => t.2.1) h
    exact Prod.ext (congrArg (fun p : Dev nD × Fin 8 => p.1) h1) (tokIx_inj (Prod.ext (congrArg (fun p : Dev nD × Fin 8 => p.2) h1) h2))⟩

def barToks : Finset (GSem nD τ sig × ℕ × Fin 2) := Finset.univ.map barTokEmb
def exToks : Finset (GSem nD τ sig × ℕ × Fin 2) := Finset.univ.map exTokEmb

theorem disjoint_toks : Disjoint barToks exToks := by
  refine Finset.disjoint_left.mpr fun g h₁ h₂ => ?_
  obtain ⟨c, -, rfl⟩ := Finset.mem_map.mp h₁
  obtain ⟨ck, -, h⟩ := Finset.mem_map.mp h₂
  exact osem_ne_bar (tokIx ck.2).1 (congrArg (fun t : GSem nD τ sig × ℕ × Fin 2 => t.1.2) h)

abbrev allToks : Finset (GSem nD τ sig × ℕ × Fin 2) := barToks ∪ exToks

def sendToks (l : Fin 2) (c : Dev nD) : sProp 𝕄 := bigSep (Finset.Ico 0 8) fun u => dutyTok ER (sendCell l (slotOf u) c) (u / 2) 0
def recvToks (l : Fin 2) (c : Dev nD) : sProp 𝕄 := bigSep (Finset.Ico 0 8) fun u => dutyTok ER (recvCell l (slotOf u) c) (u / 2) 0

theorem toks_zero (l : Fin 2) (c : Dev nD) : (toks l c 0 : sProp 𝕄) = iprop(sendToks l c ∗ recvToks l (nb l c)) := bigSep_sep' _ _ _

theorem barToks_eq : bigSep barToks (fun x => (dutyTok ER x.1 x.2.1 x.2.2 : sProp 𝕄))
    = bigSep Finset.univ fun c : Dev nD => iprop(dutyTok ER (barCell c) 0 0 ∗ dutyTok ER (barCell c) 0 1) := by
  unfold barToks; rw [bigSep_map, bigSep_univ_prod]
  exact bigSep_congr fun c _ => bigSep_fin_two fun k : Fin 2 => (dutyTok ER (barCell c) 0 k : sProp 𝕄)

theorem tokIx_send (l : Fin 2) (a : Fin 8) : tokIx (l, (a, 0)) = (sendIx l (slotOf a.val), a.val / 2) := rfl
theorem tokIx_recv (l : Fin 2) (a : Fin 8) : tokIx (l, (a, 1)) = (recvIx l (slotOf a.val), a.val / 2) := rfl

theorem linkToks_eq (l : Fin 2) (c : Dev nD) :
    (bigSep Finset.univ fun y : Fin 8 × Fin 2 => (dutyTok ER (exEmb (c, (tokIx (l, y)).1)) (tokIx (l, y)).2 0 : sProp 𝕄))
      = iprop(sendToks l c ∗ recvToks l c) := by
  rw [bigSep_univ_prod]
  simp only [bigSep_fin_two, tokIx_send, tokIx_recv, ← sendCell_eq, ← recvCell_eq]
  refine (Ring.bigSep_fin_eq_range 8 _ (fun u => BI.sep (dutyTok ER (sendCell l (slotOf u) c) (u / 2) 0 : sProp 𝕄)
    (dutyTok ER (recvCell l (slotOf u) c) (u / 2) 0)) fun _ _ => rfl).trans ?_
  rw [Finset.range_eq_Ico]
  exact bigSep_sep' _ _ _

theorem exToks_eq : bigSep exToks (fun x => (dutyTok ER x.1 x.2.1 x.2.2 : sProp 𝕄))
    = bigSep Finset.univ fun c : Dev nD => iprop((sendToks 0 c ∗ recvToks 0 c) ∗ (sendToks 1 c ∗ recvToks 1 c)) := by
  unfold exToks; rw [bigSep_map, bigSep_univ_prod]
  refine bigSep_congr fun c _ => ?_
  rw [bigSep_univ_prod]
  refine (bigSep_fin_two fun l : Fin 2 => bigSep Finset.univ fun y : Fin 8 × Fin 2 =>
    (dutyTok ER (exEmb (c, (tokIx (l, y)).1)) (tokIx (l, y)).2 0 : sProp 𝕄)).trans ?_
  rw [linkToks_eq, linkToks_eq]; rfl

/-- The tokens dealt out: each device gets those of the duties it does. -/
theorem toks_dealt : bigSep allToks (fun x => (dutyTok ER x.1 x.2.1 x.2.2 : sProp 𝕄))
    = bigSep Finset.univ fun c : Dev nD =>
        iprop((dutyTok ER (barCell (nb 0 c)) 0 0 ∗ dutyTok ER (barCell (nb 1 c)) 0 1) ∗ (toks 0 c 0 ∗ toks 1 c 0)) := by
  rw [bigSep_union disjoint_toks, barToks_eq, exToks_eq]
  simp only [toks_zero, bigSep_sep']
  rw [bigSep_univ_equiv (nbEquiv 0) (fun c : Dev nD => (dutyTok ER (barCell c) 0 0 : sProp 𝕄)),
    bigSep_univ_equiv (nbEquiv 1) (fun c : Dev nD => (dutyTok ER (barCell c) 0 1 : sProp 𝕄)),
    bigSep_univ_equiv (nbEquiv 0) (fun c : Dev nD => (recvToks 0 c : sProp 𝕄)),
    bigSep_univ_equiv (nbEquiv 1) (fun c : Dev nD => (recvToks 1 c : sProp 𝕄))]
  rfl

/-! ## The credits -/

theorem recv_ne_bar (l b : Fin 2) (c d : Dev nD) : recvCell l b c ≠ barCell d := fun h => by cases congrArg Prod.snd h

theorem recvIx_inj : ∀ {l b l' b' : Fin 2}, recvIx l b = recvIx l' b' → l = l' ∧ b = b' := by decide

theorem recv_inj {l b l' b' : Fin 2} {c c' : Dev nD} (h : recvCell l b c = recvCell l' b' c') : l = l' ∧ b = b' ∧ c = c' := by
  rw [recvCell_eq, recvCell_eq] at h
  have h1 := exEmb.injective h
  exact ⟨(recvIx_inj (congrArg Prod.snd h1)).1, (recvIx_inj (congrArg Prod.snd h1)).2, congrArg Prod.fst h1⟩

theorem due_apply (l : Fin 2) (d : Dev nD) (t : ℕ) (g : GSem nD τ sig) (i : ℕ) :
    due l d t g i = ∑ u ∈ Finset.Ico t 8, if g = recvCell l (slotOf u) (nb l d) ∧ i = u then N else 0 := by
  unfold due
  rw [Finset.sum_apply, Finsupp.finset_sum_apply]
  exact Finset.sum_congr rfl fun u _ => tallyAt_apply _ _ _ _ _

theorem due_bar (l : Fin 2) (d c : Dev nD) (i : ℕ) : due l d 0 (barCell c) i = 0 := by
  rw [due_apply]
  exact Finset.sum_eq_zero fun u _ => if_neg fun h => recv_ne_bar _ _ _ _ h.1.symm

theorem due_recv (l l' b : Fin 2) (d c : Dev nD) (i : ℕ) :
    due l' d 0 (recvCell l b c) i = if d = nb l c then (if l' = l then (if i < 8 ∧ slotOf i = b then N else 0) else 0) else 0 := by
  rw [due_apply]
  by_cases hl : l' = l
  · subst hl
    by_cases hd : d = nb l' c
    · subst hd
      rw [if_pos rfl, if_pos rfl, nb_nb]
      by_cases hi : i < 8 ∧ slotOf i = b
      · rw [if_pos hi, Finset.sum_eq_single i, if_pos ⟨by rw [hi.2], rfl⟩]
        · intro u _ hu; exact if_neg fun h => hu h.2.symm
        · intro h; exact absurd (Finset.mem_Ico.mpr ⟨Nat.zero_le _, hi.1⟩) h
      · rw [if_neg hi]
        refine Finset.sum_eq_zero fun u hu => if_neg fun h => hi ?_
        obtain ⟨h1, rfl⟩ := h
        exact ⟨(Finset.mem_Ico.mp hu).2, (recv_inj h1).2.1.symm⟩
    · rw [if_neg hd]
      exact Finset.sum_eq_zero fun u _ => if_neg fun h => hd (by rw [(recv_inj h.1).2.2, nb_nb])
  · rw [if_neg hl, ite_self]
    exact Finset.sum_eq_zero fun u _ => if_neg fun h => hl (recv_inj h.1).1.symm

theorem dueBar_recv (l b : Fin 2) (d c : Dev nD) : dueBar d (recvCell l b c) = 0 := by
  unfold dueBar
  rw [Pi.add_apply, tallyAt_ne_cell (recv_ne_bar _ _ _ _), tallyAt_ne_cell (recv_ne_bar _ _ _ _), add_zero]

theorem bar_nb (l : Fin 2) (d c : Dev nD) : barCell c = barCell (nb l d) ↔ d = nb l c := by
  constructor
  · intro h
    have h1 : c = nb l d := barEmb.injective h
    rw [h1, nb_nb]
  · rintro rfl; rw [nb_nb]

theorem owed_zero (d : Dev nD) : owed d 0 = due 0 d 0 + due 1 d 0 + dueBar d := by unfold owed; rw [if_pos rfl]

theorem owed_recv (l b : Fin 2) (d c : Dev nD) (i : ℕ) :
    owed d 0 (recvCell l b c) i = if d = nb l c then (if i < 8 ∧ slotOf i = b then N else 0) else 0 := by
  rw [owed_zero, Pi.add_apply, Pi.add_apply, Finsupp.add_apply, Finsupp.add_apply, dueBar_recv, due_recv, due_recv, Finsupp.zero_apply, add_zero]
  by_cases hd : d = nb l c
  · rw [if_pos hd, if_pos hd, if_pos hd]
    match l with
    | 0 => rw [if_pos rfl, if_neg (show ¬ (1 : Fin 2) = 0 by decide), add_zero]
    | 1 => rw [if_neg (show ¬ (0 : Fin 2) = 1 by decide), if_pos rfl, zero_add]
  · rw [if_neg hd, if_neg hd, if_neg hd]

theorem owed_bar (d c : Dev nD) (i : ℕ) :
    owed d 0 (barCell c) i = (if d = nb 0 c then (if i = 0 then 1 else 0) else 0) + (if d = nb 1 c then (if i = 0 then 1 else 0) else 0) := by
  rw [owed_zero, Pi.add_apply, Pi.add_apply, Finsupp.add_apply, Finsupp.add_apply, due_bar, due_bar]
  unfold dueBar
  rw [Pi.add_apply, Finsupp.add_apply, tallyAt_apply, tallyAt_apply]
  simp only [bar_nb, ite_and, zero_add]

abbrev owed₀ (c : Dev nD) : CellTallies nD τ sig ℕ := owed c 0

theorem launch_bar (c : Dev nD) :
    tallyOn (barCell c) (launchCredit (Pipeline.owing owed₀) 0 (barCell c)) = (tallyAt (barCell c) 0 2 : CellTallies nD τ sig ℕ) := by
  unfold tallyAt
  refine congrArg _ (Finsupp.ext fun i => ?_)
  rw [Pipeline.launchCredit_owing, Finset.sum_congr rfl fun d _ => owed_bar d c i, Finset.sum_add_distrib, Finset.sum_ite_eq' Finset.univ (nb 0 c),
    Finset.sum_ite_eq' Finset.univ (nb 1 c), if_pos (Finset.mem_univ _), if_pos (Finset.mem_univ _), Finsupp.single_apply]
  by_cases h : i = 0
  · subst h; rfl
  · rw [if_neg h, if_neg (Ne.symm h), add_zero]

theorem launch_recv (l b : Fin 2) (c : Dev nD) :
    tallyOn (recvCell l b c) (launchCredit (Pipeline.owing owed₀) 0 (recvCell l b c))
      = ∑ u ∈ (Finset.Ico 0 8).filter (fun u => slotOf u = b), (tallyAt (recvCell l b c) u N : CellTallies nD τ sig ℕ) := by
  funext g
  refine Finsupp.ext fun i => ?_
  rw [Finset.sum_apply, Finsupp.finset_sum_apply]
  by_cases hg : g = recvCell l b c
  · subst hg
    rw [tallyOn_self, Pipeline.launchCredit_owing, Finset.sum_congr rfl fun d _ => owed_recv l b d c i, Finset.sum_ite_eq' Finset.univ (nb l c),
      if_pos (Finset.mem_univ _), Finset.sum_congr rfl fun u _ => tallyAt_apply _ _ _ _ _]
    simp only [true_and]
    rw [Finset.sum_ite_eq]
    exact if_congr (by rw [Finset.mem_filter, Finset.mem_Ico]; exact ⟨fun h => ⟨⟨Nat.zero_le _, h.1⟩, h.2⟩, fun h => ⟨h.1.2, h.2⟩⟩) rfl rfl
  · rw [tallyOn_ne hg, Finset.sum_eq_zero fun u _ => by rw [tallyAt_ne_cell hg]; rfl]; rfl

theorem cred_run (s : Finset ℕ) (T : ℕ → CellTallies nD τ sig ℕ) : (cred (∑ u ∈ s, T u) : sProp 𝕄) = bigSep s fun u => cred (T u) := by
  induction s using Finset.induction_on with
  | empty => rw [Finset.sum_empty, cred_zero, bigSep_empty]; rfl
  | insert u s hu ih => rw [Finset.sum_insert hu, bigSep_insert hu, Entails.antisymm (cred_add _ _).1 (cred_add _ _).2, ih]; rfl

theorem slot_cases (u : ℕ) : (¬ slotOf u = slotOf 0) ↔ slotOf u = slotOf 1 := by
  have h : ∀ a : Fin 2, (¬ a = slotOf 0) ↔ a = slotOf 1 := by decide
  exact h _

/-- The credits of a link, slot by slot. -/
theorem creds_slots (l : Fin 2) (c : Dev nD) :
    (iprop((cred (tallyOn (recvCell l (slotOf 0) c) (launchCredit (Pipeline.owing owed₀) 0 (recvCell l (slotOf 0) c))))
      ∗ (cred (tallyOn (recvCell l (slotOf 1) c) (launchCredit (Pipeline.owing owed₀) 0 (recvCell l (slotOf 1) c))))) : sProp 𝕄) = creds l c 0 := by
  unfold creds
  rw [launch_recv, launch_recv, cred_run, cred_run, bigSep_filter_split (Finset.Ico 0 8) (fun u => slotOf u = slotOf 0)]
  simp only [slot_cases]
  exact congrArg₂ _ (bigSep_congr fun u hu => by rw [(Finset.mem_filter.mp hu).2]) (bigSep_congr fun u hu => by rw [(Finset.mem_filter.mp hu).2])

def osemEmb : Fin 8 ↪ SemLoc sig := ⟨osem, osem_inj⟩

theorem creds_dealt (c : Dev nD) :
    (Pipeline.launchCred owed₀ c : sProp 𝕄) ⊢ iprop(cred (tallyAt (barCell c) 0 2) ∗ creds 0 c 0 ∗ creds 1 c 0) := by
  unfold Pipeline.launchCred
  rw [bigSep_univ_at _ (SemLoc.reg barS), launch_bar, ← creds_slots, ← creds_slots]
  refine sep_mono_right ?_
  refine (bigSep_subset (t := Finset.univ.map osemEmb) fun sm h => ?_).trans ?_
  · obtain ⟨k, -, rfl⟩ := Finset.mem_map.mp h
    exact Finset.mem_erase.mpr ⟨osem_ne_bar k, Finset.mem_univ _⟩
  rw [bigSep_map]
  refine (Entails.of_eq (perLink_eq (F := F) (fun g => cred (tallyOn g (launchCredit (Pipeline.owing owed₀) 0 g))) c)).trans ?_
  unfold perLink
  iintro ⟨⟨-, H0⟩, -, H1⟩
  isplitl [H0] <;> iassumption

end Cert.Exchange

end
-- ==== Proof.Run.lean ====
/-
  The run of the whole program: from any memory with zero counters every execution on the four devices ends, with the arguments as they
  were, the result as the call's blocks left it, and every semaphore counter of the machine at zero. Over any reading of the floats, so
  that it serves both readings of the kernel.
-/
module

public import proofs.«01_k».proof.Proof.Launch
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig ℕ (Elt F) ℕ UU ℕ

/-- The ghost state of the launch: the staging buffers', and the exchange's. -/
def u₀ : UU :=
  (initOf (Pipeline.cells cfgs cellOf_inj) (Pipeline.launchToks cfgs cellOf_inj), launchOf barCells exCells allToks)

/-- The exchange's share of it is kept whole, on device 0, until all devices are launched. -/
def G (c : Dev nD) : sProp 𝕄 := if c = 0 then BI.own (ER (launchOf barCells exCells allToks)) else iprop(emp)

theorem G_all : bigSep Finset.univ (G (F := F)) = BI.own (ER (launchOf barCells exCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, bigSep_emp_const]
  unfold G; rw [if_pos rfl]
  exact BI.equiv_iff.mp sep_emp

theorem barrier_only (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

variable (m : (ℓ : Loc nD τ sig) → Buf (Elt F) ℓ) (ρ : Dev nD → PrngReg)

/-- What rides along the host stretch. -/
def Rest (c : Dev nD) : sProp 𝕄 := iprop((∃ r, prngReg c r) ∗ Tk m c ∗ ∃ W, owes (c : Thread nD τ) (owed c 0) W)

/-- What a device has from the launch besides the exchange's rights. -/
def Kept (c : Dev nD) : sProp 𝕄 :=
  iprop(StableHlo.held (c : Thread nD τ) (Pipeline.ucRefs τ sig) (V0 m c) ∗ (∃ r, prngReg c r) ∗ owes (c : Thread nD τ) (owed c 0) ∅
    ∗ cred (tallyAt (barCell c) 0 2) ∗ creds 0 c 0 ∗ creds 1 c 0)

/-- The rights themselves. -/
def Rights (c : Dev nD) : sProp 𝕄 :=
  iprop(atPos ER (barCell c) 0 ∅ 0 ∗ (bigSep Finset.univ fun k : Fin 8 => openTok ER ((c : Thread nD τ), osem k))
    ∗ (dutyTok ER (barCell (nb 0 c)) 0 0 ∗ dutyTok ER (barCell (nb 1 c)) 0 1) ∗ (toks 0 c 0 ∗ toks 1 c 0))

/-- What every device may consult. -/
def Known (K : GSem nD τ sig → ℕ) : sProp 𝕄 := iprop(invs (msg m) K ∗ bigSep barCells fun g => reached ER g 0)

instance known_persistent (K : GSem nD τ sig → ℕ) : BI.Persistent (Known m K) := by unfold Known invs; infer_instance

theorem bar_reached (c : Dev nD) : (bigSep barCells fun g => (reached ER g 0 : sProp 𝕄)) ⊢ reached ER (barCell c) 0 :=
  bigSep_elim (Finset.mem_map_of_mem barEmb (Finset.mem_univ c))

theorem device_start (K : GSem nD τ sig → ℕ) (c : Dev nD) :
    iprop(Known m K ∗ (Rights c ∗ Kept m c)) ⊢ iprop(StableHlo.held (c : Thread nD τ) (Pipeline.ucRefs τ sig) (V0 m c) ∗ Rest m c) := by
  unfold Known Rights Kept Rest Tk Bar
  iintro ⟨⟨#HI, #HR⟩, ⟨Hat, Hop, HtB, HT0, HT1⟩, Hh, Hp, HO, HcB, HC0, HC1⟩
  isplitl [Hh]; · iexact Hh
  isplitl [Hp]; · iexact Hp
  isplitr [HO]
  · isplitr; · iexists K; iexact HI
    isplitl [Hat HtB HcB]
    · isplitl [Hat]; · iexact Hat
      isplitr
      · isplitr
        · iapply (bar_reached (F := F) (nb 0 c)); iexact HR
        iapply (bar_reached (F := F) (nb 1 c)); iexact HR
      isplitl [HtB] <;> iassumption
    isplitl [Hop]; · iexact Hop
    isplitl [HT0 HC0]
    · isplitl [HT0] <;> iassumption
    isplitl [HT1] <;> iassumption
  iexists ∅; iexact HO

/-- A device's share of the launch, sorted. -/
theorem device_share (c : Dev nD) :
    iprop(unscopedBufs c (fun b => m ((c : Thread nD τ).loc b)) ∗ unscopedSems0 c ∗ owes (c : Thread nD τ) (owed₀ c) ∅
        ∗ Pipeline.launchCred owed₀ c ∗ prngReg c (ρ c) ∗ G c)
      ⊢ (iprop(Kept m c ∗ (semVal (barCell c) 0 ∗ G c)) : sProp 𝕄) := by
  rw [show unscopedBufs c (fun b => m ((c : Thread nD τ).loc b)) = (StableHlo.held (c : Thread nD τ) (Pipeline.ucRefs τ sig) (V0 m c) : sProp 𝕄) from
    Pipeline.unscopedBufs_held c (V0 m c), barrier_only]
  unfold Kept
  iintro ⟨Hh, Hs, HO, HC, Hp, HG⟩
  ihave HC' := (creds_dealt (F := F) c) $$ HC
  isplitr [Hs HG]
  · isplitl [Hh]; · iexact Hh
    isplitl [Hp]; · iexists (ρ c); iexact Hp
    isplitl [HO] <;> iassumption
  isplitl [Hs] <;> iassumption

theorem start_all :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ Rest m c) : sProp 𝕄) := by
  have hsort : (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (iprop((bigSep Finset.univ fun c => Kept m c) ∗ (bigSep barCells fun g => semVal g 0) ∗ BI.own (ER (launchOf barCells exCells allToks))) : sProp 𝕄) := by
    refine (bigSep_mono fun c _ => device_share m ρ c).trans ?_
    rw [bigSep_sep', bigSep_sep', bigSep_map, G_all]
    exact BI.Entails.refl _
  have hat : bigSep barCells (fun g => (atPos ER g 0 ∅ 0 : sProp 𝕄)) = bigSep Finset.univ (fun c : Dev nD => (atPos ER (barCell c) 0 ∅ 0 : sProp 𝕄)) :=
    bigSep_map barEmb
  have hop : bigSep exCells (fun g => (openTok ER g : sProp 𝕄))
      = bigSep Finset.univ (fun c : Dev nD => bigSep Finset.univ fun k : Fin 8 => openTok ER ((c : Thread nD τ), osem k)) :=
    (bigSep_map exEmb).trans (bigSep_univ_prod _)
  have hrights : iprop((bigSep Finset.univ fun c : Dev nD => atPos ER (barCell c) 0 ∅ 0)
        ∗ (bigSep Finset.univ fun c : Dev nD => bigSep Finset.univ fun k : Fin 8 => openTok ER ((c : Thread nD τ), osem k))
        ∗ (bigSep Finset.univ fun c : Dev nD =>
          iprop((dutyTok ER (barCell (nb 0 c)) 0 0 ∗ dutyTok ER (barCell (nb 1 c)) 0 1) ∗ (toks 0 c 0 ∗ toks 1 c 0))))
      ⊢ (bigSep Finset.univ fun c => Rights c : sProp 𝕄) := by
    unfold Rights
    exact Entails.of_eq (by rw [← bigSep_sep', ← bigSep_sep'])
  iintro ⟨H, -⟩
  ihave H' := hsort $$ H
  icases H' with ⟨HK, Hs, Hu⟩
  imod (Rounds.fund_launch ER (exRd (msg m)) disjoint_cells (fun g _ h => h) allToks) $$ [Hs Hu] with ⟨%K, -, #HI, #HR, Hat, Hop, Ht⟩
  · isplitl [Hs] <;> iassumption
  imodintro
  ihave Hat := (Entails.of_eq hat) $$ Hat
  ihave Hop := (Entails.of_eq hop) $$ Hop
  ihave Ht := (Entails.of_eq (toks_dealt (F := F))) $$ Ht
  ihave HR' := hrights $$ [Hat Hop Ht]
  · isplitl [Hat]; · iexact Hat
    isplitl [Hop] <;> iassumption
  iapply (bigSep_with_persistent (R := Known m K) (Φ := fun c => iprop(Rights c ∗ Kept m c)) fun c _ => device_start m K c)
  isplitr
  · unfold Known invs
    isplitr; · iexact HI
    iexact HR
  iapply (Entails.of_eq (bigSep_sep' Finset.univ (fun c => Rights c) (fun c => Kept m c)).symm)
  isplitl [HR'] <;> iassumption

/-! ## Into the call, and out of it -/

theorem into_call (c : Dev nD) :
    iprop(StableHlo.held (c : Thread nD τ) (Pipeline.ucRefs τ sig) (V1 m c) ∗ Rest m c) ⊢ (region m).pre c := by
  show _ ⊢ (iprop(StableHlo.held (c : Thread nD τ) arrs (V1 m c) ∗ (∃ r, prngReg c r)
    ∗ (StableHlo.held (c : Thread nD τ) others (V1 m c) ∗ emp) ∗ Tk m c ∗ ∃ W, owes (c : Thread nD τ) (0 + owed c 0) W) : sProp 𝕄)
  rw [StableHlo.held_sub_split (c := c.tc) arrs_sub (V1 m c), zero_add]
  unfold Rest
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

/-- What a device has at the end. -/
abbrev Tend (c : Dev nD) : sProp 𝕄 := iprop(StableHlo.held (c : Thread nD τ) (Pipeline.ucRefs τ sig) (Vend m c) ∗ semVal (barCell c) 0)

theorem out_of_call (c : Dev nD) :
    (region m).post c ⊢ iprop(Tend m c ∗ ∃ W, owes (c : Thread nD τ) (0 : CellTallies nD τ sig ℕ) W) := by
  show (iprop(StableHlo.held (c : Thread nD τ) arrs (Vend m c) ∗ (∃ r, prngReg c r)
    ∗ (StableHlo.held (c : Thread nD τ) others (Vend m c) ∗ emp) ∗ semVal (barCell c) 0 ∗ ∃ W, owes (c : Thread nD τ) (0 : CellTallies nD τ sig ℕ) W) : sProp 𝕄) ⊢ _
  unfold Tend
  rw [StableHlo.held_sub_split (c := c.tc) arrs_sub (Vend m c)]
  iintro ⟨Ha, -, ⟨Ho, -⟩, Hb, HO⟩
  isplitr [HO]
  · isplitl [Ha Ho]
    · isplitl [Ha] <;> iassumption
    iexact Hb
  iexact HO

theorem Vend_arg0 (c : Dev nD) : Vend m c (Proc.devRef .tc main_arg0) = m ((c : Thread nD τ).loc main_arg0) :=
  (Vend_of m c main_arg0 (by decide)).trans ((V1_of m c main_arg0 (by decide)).trans rfl)
theorem Vend_arg1 (c : Dev nD) : Vend m c (Proc.devRef .tc main_arg1) = m ((c : Thread nD τ).loc main_arg1) :=
  (Vend_of m c main_arg1 (by decide)).trans ((V1_of m c main_arg1 (by decide)).trans rfl)

theorem unscoped_eq : ∀ sm : SemLoc sig, sm.isScoped .tc = false → sm = .reg barS := by decide

theorem uc_mem (r : Ref sig .tc) (h : r.isScoped = false) : (Proc.devRef .tc r : DevRef τ sig) ∈ Pipeline.ucRefs τ sig :=
  Finset.mem_filter.mpr ⟨StableHlo.devRef_mem_tcRefs r, by simpa using h⟩

set_option backward.isDefEq.respectTransparency.types false in
/-- **The run.** -/
theorem run_main :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v30) = left m c)
      ∧ r.2.sem = fun _ => 0) :=
  Pipeline.θ_run_regions_kit_dev_sems (pcfgs (F := F)) adm (dats m) 0 cellOf_inj EP defs₀ 𝒱₀ L lv m ρ main
    (segs m 𝒱₀ L lv (fun _ => Rest m) 0 (dats m) (region m))
    (fun c Q => by
      rewrite [main_chain c, Seg.run_eq_chain,
        show (segs m 𝒱₀ L lv (fun _ => Rest m) 0 (dats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := owed₀) (hL := fun g h => if_neg h) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := fun c => iprop(StableHlo.held (c : Thread nD τ) (Pipeline.ucRefs τ sig) (V0 m c) ∗ Rest m c)) (Tₙ := Tend m)
    (hch := fun c => ⟨.rfl, into_call m c, out_of_call m c⟩)
    (hinit := start_all m ρ)
    (QY := fun c s => (∀ b ∈ Pipeline.ucRefs τ sig, s.mem (c, b) = Vend m c b) ∧ s.sem (barCell c) = 0)
    (hfin := fun c s' => by
      unfold Tend StableHlo.held
      iintro ⟨⟨Hh, Hb⟩, HSI⟩
      ihave Hr := (pointsTo_read_all (Pipeline.ucRefs τ sig) (fun b => ((c : Thread nD τ).1, b)) (Vend m c) s') $$ [Hh HSI]
      · isplitl [Hh] <;> iassumption
      icases Hr with ⟨%hm, HSI⟩
      icombine HSI Hb gives %hb
      imodintro
      isplitr
      · ipureintro
        exact ⟨hm, by simpa using hb⟩
      iexact HSI)
    (hQ := fun s h hs => ⟨fun c => by
        obtain ⟨hm, -⟩ := h c
        exact ⟨(hm _ (uc_mem main_arg0 (by decide))).trans (Vend_arg0 m c), (hm _ (uc_mem main_arg1 (by decide))).trans (Vend_arg1 m c),
          (hm _ (uc_mem main_v30 (by decide))).trans (Vend_result m c)⟩,
      sem_eq_zero hs fun c sm hsm => by
        obtain rfl := unscoped_eq sm hsm
        exact (h c).2⟩)

end Cert.Exchange

end
-- ==== Proof.Host.lean ====
/-
  What the host stretch leaves in the two operands of the communicating call, over the extended reals.

  On each device the stretch computes the device's place on the mesh with words, cuts the columns of its rows of `x` that belong to
  the device itself and to its neighbour along x, and multiplies each slice, transposed, by its rows of `dy`.
-/
module

public import proofs.«01_k».proof.Proof.Region
public import Idealize.ShloMosaic.Lib.StableHlo.RunClose
public import Idealize.ShloMosaic.Lib.DynamicIndex
public import Idealize.ShloMosaic.Lib.Pointwise

@[expose] public section

noncomputable section

namespace Cert.Exchange

open Cert.KernelIdeal Cert.KernelIdeal.Gen

open Idealize.ShloMosaic
open Idealize.ShloMosaic.TcCoe

theorem cut_fits : ∀ q : Fin 4, S4096x4096.Slices ![0, q.val * 1024] S4096x1024 := by decide

/-- The product of a device: columns `1024 q …` of its rows of `x`, transposed, times its rows of `dy`, rounded. -/
def part (x : FVec Ideal S4096x4096 .bf16) (dy : FVec Ideal S4096x8192 .bf16) (q : Fin 4) : FVec Ideal S1024x8192 .bf16 :=
  truncf .bf16 (Host.dotGeneral (φ₁ := .bf16) (φ₂ := .bf16) dot_S1024x4096_S4096x8192_S1024x8192_1_0_0_1_n_n none
    (transpose S1024x4096 [1, 0] (extractStridedSlice S4096x1024 ![0, q.val * 1024] x (cut_fits q)) transposes_S4096x1024_S1024x4096_1_0) dy) bitsLt_bf16_f32

variable (m : (ℓ : Loc nD τ sig) → Buf (Elt Ideal) ℓ)

/-- The first operand of the call: the product over the device's own columns. -/
theorem operand_mine (c : Dev nD) : V1 m c main_v26 = part (m ((c : Thread nD τ).loc main_arg0)) (m ((c : Thread nD τ).loc main_arg1)) c := by
  unfold part V1 hostOps0
  after_results_simp_entrywise
  rw [Host.dynamicSlice_eq_extractStridedSlice S4096x1024 _ _ ![0, c.val * 1024] sliceFits_S4096x4096_S4096x1024 (cut_fits c)]
  intro a
  fin_cases a
  · rfl
  · revert c
    decide +kernel

/-- The second: the product over the columns of the neighbour along x. -/
theorem operand_other (c : Dev nD) : V1 m c main_v29 = part (m ((c : Thread nD τ).loc main_arg0)) (m ((c : Thread nD τ).loc main_arg1)) (nb 0 c) := by
  unfold part V1 hostOps0
  after_results_simp_entrywise
  rw [Host.dynamicSlice_eq_extractStridedSlice S4096x1024 _ _ ![0, (nb 0 c).val * 1024] sliceFits_S4096x4096_S4096x1024 (cut_fits (nb 0 c))]
  intro a
  fin_cases a
  · rfl
  · revert c
    decide +kernel

/-- Element `(r, j)` of a device's product: the sum, over the device's rows, of column `1024 q + r` of `x` times column `j` of `dy`. -/
theorem part_apply (x : FVec Ideal S4096x4096 .bf16) (dy : FVec Ideal S4096x8192 .bf16) (q : Fin 4) (i : S1024x8192.Idx) :
    part x dy q i = ∑ k : Fin 4096, x (ix2 k ⟨q.val * 1024 + (i 0).val, by have := (i 0).isLt; change _ < 1024 at this; omega⟩) * dy (ix2 k (i 1)) := by
  unfold part
  pointwise

end Cert.Exchange

end
-- ==== Proof.Values.lean ====
/-
  What the call leaves in the result, over the extended reals: every device's rows of the product of the whole arrays.

  A device's product over 1024 columns of `x` is half of the sum over the rows of the whole arrays, and its neighbour along x has the other half.
  The sum of the two is exact, and so is every change of format. The result of a device takes its own 1024 rows and those of its neighbour along y.
-/
module

public import proofs.«01_k».proof.Proof.Host
public import Idealize.ShloMosaic.Lib.Pipeline.ValueKit
public import Idealize.ShloMosaic.Lib.Layout

@[expose] public section

noncomputable section

namespace Cert.Exchange

open Cert.KernelIdeal Cert.KernelIdeal.Gen

open Idealize.ShloMosaic
open Idealize.ShloMosaic.TcCoe

/-! ## The product of the whole arrays -/

/-- The two whole arrays. -/
abbrev WX := FVec Ideal ⟨2, ![8192, 4096]⟩ .bf16
abbrev WY := FVec Ideal ⟨2, ![8192, 8192]⟩ .bf16

/-- The rows `4096 (d / 2) …` that device `d` holds. -/
def row (d : Fin 4) (k : Fin 4096) : Fin 8192 := ⟨(d.val / 2) * 4096 + k.val, by omega⟩

/-- The part of element `(a, j)` of the product that comes from the rows of device `d`. -/
def half (X : WX) (Y : WY) (d : Fin 4) (a : Fin 4096) (j : Fin 8192) : EReal := ∑ k : Fin 4096, (X (ix2 (row d k) a) : EReal) * Y (ix2 (row d k) j)

/-- Element `(a, j)` of the product. -/
def whole (X : WX) (Y : WY) (a : Fin 4096) (j : Fin 8192) : EReal := ∑ k : Fin 8192, (X (ix2 k a) : EReal) * Y (ix2 k j)

/-- A sum over 8192 rows is the sum over the upper half and the sum over the lower. -/
theorem sum_halves (f : Fin 8192 → EReal) : ∑ k, f k = ∑ k : Fin 4096, f (row 0 k) + ∑ k : Fin 4096, f (row 2 k) := by
  refine (Fin.sum_univ_add (a := 4096) (b := 4096) f).trans (congrArg₂ _ ?_ ?_) <;>
    refine Finset.sum_congr rfl fun k _ => congrArg f (Fin.ext ?_)
  · show k.val = 0 / 2 * 4096 + k.val
    omega
  · show 4096 + k.val = 2 / 2 * 4096 + k.val
    omega

theorem row_of (d e : Fin 4) (h : d.val / 2 = e.val / 2) : row d = row e := by
  funext k; exact Fin.ext (by show d.val / 2 * 4096 + k.val = e.val / 2 * 4096 + k.val; rw [h])

/-- A device's half and its neighbour's make the whole, added in either order. -/
theorem half_add (X : WX) (Y : WY) (c : Fin 4) (a : Fin 4096) (j : Fin 8192) : half X Y c a j + half X Y (nb 0 c) a j = whole X Y a j := by
  have key : (c.val / 2 = (0 : Fin 4).val / 2 ∧ (nb 0 c).val / 2 = (2 : Fin 4).val / 2) ∨ (c.val / 2 = (2 : Fin 4).val / 2 ∧ (nb 0 c).val / 2 = (0 : Fin 4).val / 2) := by
    revert c; decide
  unfold half whole
  rw [sum_halves]
  rcases key with ⟨h1, h2⟩ | ⟨h1, h2⟩ <;> rw [row_of _ _ h1, row_of _ _ h2]
  exact add_comm _ _

/-! ## The blocks of a step -/

variable (m : (ℓ : Loc nD τ sig) → Buf (Elt Ideal) ℓ)

/-- Every device's arguments are its rows of the whole arrays. -/
def Holds (X : WX) (Y : WY) : Prop := ∀ c : Dev nD,
  (∀ k a, m ((c : Thread nD τ).loc main_arg0) (ix2 k a) = X (ix2 (row c k) a)) ∧ ∀ k j, m ((c : Thread nD τ).loc main_arg1) (ix2 k j) = Y (ix2 (row c k) j)

/-- Column `w` of the step's block. -/
def col (t : ℕ) (ht : t < 8) (w : Fin 1024) : Fin 8192 := ⟨t * 1024 + w.val, by omega⟩

/-- Column `1024 q + r` of `x`. -/
def own (q : Fin 4) (r : Fin 1024) : Fin 4096 := ⟨q.val * 1024 + r.val, by omega⟩

/-- At step `t` the windows are at column block `t`, each of its operand or result. -/
theorem place_mine : ∀ t : Fin cfg0.N, (win0_0.index t 0 = 0 ∧ win0_0.index t 1 = t.val) := by decide +kernel
theorem place_other : ∀ t : Fin cfg0.N, (win0_1.index t 0 = 0 ∧ win0_1.index t 1 = t.val) := by decide +kernel
theorem place_out : ∀ t : Fin cfg0.N, (win0_2.index t 0 = 0 ∧ win0_2.index t 1 = t.val) := by decide +kernel

theorem mine_at (c : Dev nD) (t : Fin cfg0.N) (y : S1024x1024.Idx) :
    mine m c t y = V1 m c main_v26 (ix2 (y 0) (col t.val (lt_of_lt_of_eq t.isLt N_0) (y 1))) := by
  unfold mine
  blk_simp
  refine congrArg (V1 m c main_v26) (funext fun a => Fin.ext ?_)
  fin_cases a
  · show win0_0.index t 0 * 1024 + 1 * (y 0).val = (y 0).val
    rw [(place_mine t).1]; omega
  · show win0_0.index t 1 * 1024 + 1 * (y 1).val = t.val * 1024 + (y 1).val
    rw [(place_mine t).2]; omega

theorem other_at (c : Dev nD) (t : Fin cfg0.N) (y : S1024x1024.Idx) :
    other m c t y = V1 m c main_v29 (ix2 (y 0) (col t.val (lt_of_lt_of_eq t.isLt N_0) (y 1))) := by
  unfold other
  blk_simp
  refine congrArg (V1 m c main_v29) (funext fun a => Fin.ext ?_)
  fin_cases a
  · show win0_1.index t 0 * 1024 + 1 * (y 0).val = (y 0).val
    rw [(place_other t).1]; omega
  · show win0_1.index t 1 * 1024 + 1 * (y 1).val = t.val * 1024 + (y 1).val
    rw [(place_other t).2]; omega

theorem part_half {X : WX} {Y : WY} (h : Holds m X Y) (c : Dev nD) (q : Fin 4) (r : Fin 1024) (j : Fin 8192) :
    part (m ((c : Thread nD τ).loc main_arg0)) (m ((c : Thread nD τ).loc main_arg1)) q (ix2 r j) = half X Y c (own q r) j := by
  rw [part_apply]
  refine Finset.sum_congr rfl fun k _ => congrArg₂ _ ?_ ?_
  · exact (h c).1 k _
  · exact (h c).2 k _

/-- The sum of two blocks is exact. -/
theorem sumBlk_apply (a b : S1024x1024.Idx → Elt Ideal .bf16) (y : S1024x1024.Idx) : sumBlk a b y = (a y + b y : EReal) := by
  unfold sumBlk
  pointwise

theorem widen_apply (a : S1024x1024.Idx → Elt Ideal .bf16) (y : S1024x1024.Idx) : widen a y = a y := rfl

/-- What a device sends along y at a step: its columns of `x` against the step's columns of `dy`, over all the rows. -/
theorem msg_whole {X : WX} {Y : WY} (h : Holds m X Y) (c : Dev nD) (t : Fin cfg0.N) (y : S1024x1024.Idx) :
    msg m 1 c t.val y = whole X Y (own c (y 0)) (col t.val (lt_of_lt_of_eq t.isLt N_0) (y 1)) := by
  rw [msg_one, msg_zero, sumBlk_apply, mine_at, other_at, operand_mine, operand_other, nb_nb]
  exact (congrArg₂ _ (part_half m h c c (y 0) _) (part_half m h (nb 0 c) c (y 0) _)).trans (half_add X Y c _ _)

/-- Row `i` of device `c`'s result is this row of the product. -/
def outRow (c : Fin 4) (i : Fin 2048) : Fin 4096 := ⟨c.val / 2 * 2048 + i.val, by omega⟩

/-- The result of device `c` at the end: its rows of the product of the whole arrays. -/
theorem left_whole {X : WX} {Y : WY} (h : Holds m X Y) (c : Dev nD) : left m c = fun i => whole X Y (outRow c (i 0)) (i 1) := by
  unfold left
  refine (dats m 0 c).arrAt_eq_of_covers 2 _ (by decide +kernel) fun t _ y => ?_
  blk_simp
  show outBlk c (msg m 1 c t.val) (msg m 1 (nb 1 c) t.val) y = _
  have e1 : (win0_2.blk t).view.emb y 1 = col t.val (lt_of_lt_of_eq t.isLt N_0) (y 1) := Fin.ext (by
    show win0_2.index t 1 * 1024 + 1 * (y 1).val = t.val * 1024 + (y 1).val
    rw [(place_out t).2]; omega)
  have e0 : (win0_2.blk t).view.emb y 0 = y 0 := Fin.ext (by
    show win0_2.index t 0 * 2048 + 1 * (y 0).val = (y 0).val
    rw [(place_out t).1]; omega)
  have hc : ∀ c : Fin 4, c.val = c.val / 2 * 2 + c.val % 2 ∧ (nb 1 c).val = c.val / 2 * 2 + (1 - c.val % 2) := by decide
  have hy : (y 0).val < 2048 := (y 0).isLt
  have := hc c
  unfold outBlk
  split
  · rw [widen_apply, msg_whole m h]
    refine congrArg₂ (whole X Y) (Fin.ext ?_) e1.symm
    show c.val * 1024 + (y 0).val % 1024 = c.val / 2 * 2048 + ((win0_2.blk t).view.emb y 0).val
    rw [e0]; omega
  · rw [widen_apply, msg_whole m h]
    refine congrArg₂ (whole X Y) (Fin.ext ?_) e1.symm
    show (nb 1 c).val * 1024 + (y 0).val % 1024 = c.val / 2 * 2048 + ((win0_2.blk t).view.emb y 0).val
    rw [e0]; omega

end Cert.Exchange

end
-- ==== Proof.Agree.lean ====
/-
  The kernel's result against the reference's: device by device, the rows of one product.
-/
module

public import proofs.«01_k».proof.Proof.Values
public import proofs.«01_k».proof.Proof.Gen.ReferenceIdeal

@[expose] public section

noncomputable section

namespace Cert.Exchange

open Idealize.ShloMosaic
open Idealize.ShloMosaic.TcCoe

/-- What the reference computes from the whole arrays: the product, rounded and widened again. -/
def product (X : WX) (Y : WY) : FVec Ideal ⟨2, ![4096, 8192]⟩ .f32 :=
  extf .f32 (truncf .bf16 (Host.dotGeneral (φ₁ := .bf16) (φ₂ := .bf16) Cert.ReferenceIdeal.dot_S4096x8192_S8192x8192_S4096x8192_1_0_0_1_n_n none
    (transpose Cert.ReferenceIdeal.S4096x8192 [1, 0] X Cert.ReferenceIdeal.Facts₀.transposes_S8192x4096_S4096x8192_1_0) Y) Cert.ReferenceIdeal.Facts₀.bitsLt_bf16_f32) Cert.ReferenceIdeal.Facts₀.bitsLt_bf16_f32

/-- Over the extended reals it is the sum over the rows. -/
theorem product_apply (X : WX) (Y : WY) (i : (⟨2, ![4096, 8192]⟩ : Shape).Idx) : product X Y i = whole X Y (i 0) (i 1) := by
  unfold product whole
  pointwise

/-- The block that a device holds along the rows is the one its place along x names. -/
theorem block_row : ∀ c : Fin 4, ((Layout.meshBlock [2, 2] ![[0], []] c (r := 2)) 0).val = c.val / 2 ∧ ((Layout.meshBlock [2, 2] ![[0], []] c (r := 2)) 1).val = 0 := by decide

/-- If every device's arguments are its blocks of the whole arrays, they are its rows of them. -/
theorem holds_of_blocks (m : (ℓ : Loc Cert.KernelIdeal.nD Cert.KernelIdeal.τ Cert.KernelIdeal.sig) → Buf (Elt Ideal) ℓ) (X : WX) (Y : WY)
    (h : ∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2] ![[0], []] c) X
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[0], []] c) Y) :
    Holds m X Y := by
  intro c
  obtain ⟨h0, h1⟩ := h c
  obtain ⟨b0, b1⟩ := block_row c
  refine ⟨fun k a => (congrFun h0 _).trans (congrArg X (funext fun b => Fin.ext ?_)), fun k j => (congrFun h1 _).trans (congrArg Y (funext fun b => Fin.ext ?_))⟩
  · fin_cases b
    · show ((Layout.meshBlock [2, 2] ![[0], []] c (r := 2)) 0).val * 4096 + k.val = c.val / 2 * 4096 + k.val
      rw [b0]
    · show ((Layout.meshBlock [2, 2] ![[0], []] c (r := 2)) 1).val * 4096 + a.val = a.val
      rw [b1]; omega
  · fin_cases b
    · show ((Layout.meshBlock [2, 2] ![[0], []] c (r := 2)) 0).val * 4096 + k.val = c.val / 2 * 4096 + k.val
      rw [b0]
    · show ((Layout.meshBlock [2, 2] ![[0], []] c (r := 2)) 1).val * 8192 + j.val = j.val
      rw [b1]; omega

/-- Then what the kernel leaves on a device is that device's block of the reference's result. -/
theorem left_block (m : (ℓ : Loc Cert.KernelIdeal.nD Cert.KernelIdeal.τ Cert.KernelIdeal.sig) → Buf (Elt Ideal) ℓ) (X : WX) (Y : WY) (h : Holds m X Y)
    (c : Dev Cert.KernelIdeal.nD) :
    left m c = Layout.blockN ⟨2, ![2048, 8192]⟩ ⟨2, ![4096, 8192]⟩ (Layout.meshBlock [2, 2] ![[0], []] c) (product X Y) := by
  obtain ⟨b0, b1⟩ := block_row c
  rw [left_whole m h]
  funext i
  rw [Layout.blockN_apply, product_apply]
  refine congrArg₂ (whole X Y) (Fin.ext ?_) (Fin.ext ?_)
  · show c.val / 2 * 2048 + (i 0).val = ((Layout.meshBlock [2, 2] ![[0], []] c (r := 2)) 0).val * 2048 + (i 0).val
    rw [b0]
  · show (i 1).val = ((Layout.meshBlock [2, 2] ![[0], []] c (r := 2)) 1).val * 8192 + (i 1).val
    rw [b1]; omega

end Cert.Exchange

end
-- ==== Proof.lean ====
/-
  The certificate of the reduce-scatter of a weight gradient on a 2 x 2 mesh.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel ends without fault, the arguments unchanged and all counters zero, over any reading of the floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Exchange.run_main m ρ)

/-- The two programs' kernel bodies are one text, so their tables of bodies are equal: there is one label. -/
theorem bodies_eq : Cert.Kernel.defs₀ (F := Bits) = Cert.KernelIdeal.defs₀ (F := Bits) := by
  refine congrArg Defs.onTc ?_
  funext l a
  match l with
  | 0 => rfl
  | ⟨_ + 1, h⟩ => exact absurd h (Nat.not_lt.2 (Nat.le_add_left _ _))

/-- And so are the tables the two programs run with. -/
theorem table_eq : Cert.Kernel.defs (F := Bits) = Cert.KernelIdeal.defs (F := Bits) :=
  congrArg (Pipeline.defs (Cert.KernelIdeal.pcfgs (F := Bits))) bodies_eq

/-- As written, over the floats' bits: the program read over the extended reals has the same text. -/
theorem frame_kernel : Cert.quiescent_Kernel := fun m ρ _ => by
  rw [table_eq]
  exact frame_any (F := Bits) m ρ

/-- And over the extended reals. -/
theorem frame_ideal : Cert.quiescent_KernelIdeal := fun m ρ _ => frame_any (F := Ideal) m ρ

/-- And for the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from blocks of the same whole arrays, every device leaves its block of the reference's result. -/
theorem agree : Cert.algebraic_KernelIdeal_ReferenceIdeal := by
  intro m g m' g' _ hagree
  refine ⟨Cert.Exchange.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.Exchange.left_block m _ _ (Cert.Exchange.holds_of_blocks m _ _ hagree) c), (h.1 c).1, (h.1 c).2.1⟩)
      (Cert.Exchange.run_main (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, agree⟩

end Cert.Proof

end
